-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x26x32 : Shape := ⟨3, ![16384, 26, 32]⟩
abbrev S130 : Shape := ⟨1, ![130]⟩
abbrev S26x32x16384 : Shape := ⟨3, ![26, 32, 16384]⟩
abbrev S832x16384 : Shape := ⟨2, ![832, 16384]⟩
abbrev S832x128 : Shape := ⟨2, ![832, 128]⟩
abbrev S26x16 : Shape := ⟨2, ![26, 16]⟩
abbrev S16x130 : Shape := ⟨2, ![16, 130]⟩
abbrev S_ : Shape := ⟨0, ![]⟩
abbrev S1x130 : Shape := ⟨2, ![1, 130]⟩
abbrev S1x16 : Shape := ⟨2, ![1, 16]⟩
abbrev S16 : Shape := ⟨1, ![16]⟩
abbrev S1 : Shape := ⟨1, ![1]⟩
abbrev S16384x832 : Shape := ⟨2, ![16384, 832]⟩

abbrev nBuf : Table → Nat
  | .hbm => 7
  | .shared => 2
  | .local .scVector .smem => 2
  | .local .scVector .vmem => 2
  | _ => 0

abbrev bufTy : (tb : Table) → Fin (nBuf tb) → BufTy
  | .hbm, ⟨0, _⟩ => ⟨S16384x26x32, .f32⟩
  | .hbm, ⟨1, _⟩ => ⟨S130, .f32⟩
  | .hbm, ⟨2, _⟩ => ⟨S130, .f32⟩
  | .hbm, ⟨3, _⟩ => ⟨S26x32x16384, .f32⟩
  | .hbm, ⟨4, _⟩ => ⟨S832x16384, .f32⟩
  | .hbm, ⟨5, _⟩ => ⟨S832x16384, .f32⟩
  | .hbm, ⟨6, _⟩ => ⟨S16384x832, .f32⟩
  | .shared, ⟨0, _⟩ => ⟨S16x130, .f32⟩
  | .shared, ⟨1, _⟩ => ⟨S16x130, .f32⟩
  | .local .scVector .smem, ⟨0, _⟩ => ⟨S130, .f32⟩
  | .local .scVector .smem, ⟨1, _⟩ => ⟨S130, .f32⟩
  | .local .scVector .vmem, ⟨0, _⟩ => ⟨S832x128, .f32⟩
  | .local .scVector .vmem, ⟨1, _⟩ => ⟨S26x16, .f32⟩
  | _, _ => ⟨S16384x26x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v1_scv : Ref sig .scVector := ⟨.hbm, 4, rfl⟩
abbrev main_arg1_scv : Ref sig .scVector := ⟨.hbm, 1, rfl⟩
abbrev main_arg2_scv : Ref sig .scVector := ⟨.hbm, 2, rfl⟩
abbrev main_v2_scv : Ref sig .scVector := ⟨.hbm, 5, rfl⟩
abbrev cc0_scratch4 : Ref sig .scVector := ⟨.shared, 0, rfl⟩
abbrev cc0_scratch5 : Ref sig .scVector := ⟨.shared, 1, rfl⟩
abbrev cc0_scratch2 : Ref sig .scVector := ⟨.smem, 0, rfl⟩
abbrev cc0_scratch3 : Ref sig .scVector := ⟨.smem, 1, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c0_i32_2_r0 : BitVec 32 := 0#32
  ![arg1.toNat, 0]
@[reducible] def k0_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k0_off2 (i : grid0.Coords) (k0_t1 : Fin k0_t1_loop.trips) : Fin 2 → Nat :=
  let c0_i32_6_r4 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_0 : BitVec 32 := 0#32
  let c1_i32 : BitVec 32 := 1#32
  let arg12 : BitVec 32 := Scf.iv c0_i32_0 c1_i32 k0_t1
  let c128_i32 : BitVec 32 := 128#32
  let v4 : BitVec 32 := Scalar.muli arg12 c128_i32
  let v5 : BitVec 32 := Scalar.addi v2 v4
  ![0, v5.toNat]
@[reducible] def k0_t2_loop : Scf.Loop 32 :=
  let c0_i32_3 : BitVec 32 := 0#32
  let c256_i32 : BitVec 32 := 256#32
  let v6 : BitVec 32 := Scalar.addi c0_i32_3 c256_i32
  let c1_i32_4 : BitVec 32 := 1#32
  ⟨c0_i32_3, v6, c1_i32_4⟩
def k0_off3 (k0_t2 : Fin k0_t2_loop.trips) (c0_i32_18 : BitVec 32) : Fin 2 → Nat :=
  let c0_i32_3 : BitVec 32 := 0#32
  let c1_i32_4 : BitVec 32 := 1#32
  let arg13 : BitVec 32 := Scf.iv c0_i32_3 c1_i32_4 k0_t2
  let c0_i32_6 : BitVec 32 := 0#32
  let v8 : BitVec 1 := Scalar.cmpi .sgt arg13 c0_i32_6
  let v9 : BitVec 32 := Scalar.extui v8
  let c0_i32_7 : BitVec 32 := 0#32
  let v10 : BitVec 1 := Scalar.cmpi .slt arg13 c0_i32_7
  let v11 : BitVec 32 := Scalar.extui v10
  let v12 : BitVec 32 := Scalar.subi v9 v11
  let c8_i32 : BitVec 32 := 8#32
  let c0_i32_8 : BitVec 32 := 0#32
  let v13 : BitVec 1 := Scalar.cmpi .sgt c8_i32 c0_i32_8
  let v14 : BitVec 32 := Scalar.extui v13
  let c0_i32_9 : BitVec 32 := 0#32
  let v15 : BitVec 1 := Scalar.cmpi .slt c8_i32 c0_i32_9
  let v16 : BitVec 32 := Scalar.extui v15
  let v17 : BitVec 32 := Scalar.subi v14 v16
  let v18 : BitVec 1 := Scalar.cmpi .ne v12 v17
  let v19 : BitVec 32 := Scalar.remsi arg13 c8_i32
  let c0_i32_10 : BitVec 32 := 0#32
  let v20 : BitVec 1 := Scalar.cmpi .ne v19 c0_i32_10
  let v21 : BitVec 1 := Scalar.andi v18 v20
  let v7 : BitVec 32 := Scalar.divsi arg13 c8_i32
  let c1_i32_11 : BitVec 32 := 1#32
  let v22 : BitVec 32 := Scalar.subi v7 c1_i32_11
  let v23 : BitVec 32 := Scalar.select v21 v22 v7
  let v35 : BitVec 32 := Scalar.addi c0_i32_18 v23
  let v36 : Index := Scalar.indexCast v35
  let c8_i32_12 : BitVec 32 := 8#32
  let c0_i32_13 : BitVec 32 := 0#32
  let v24 : BitVec 1 := Scalar.cmpi .eq c8_i32_12 c0_i32_13
  let c1_i32_14 : BitVec 32 := 1#32
  let v25 : BitVec 32 := Scalar.select v24 c1_i32_14 c8_i32_12
  let v26 : BitVec 32 := Scalar.remsi arg13 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c16_i32 : BitVec 32 := 16#32
  let v34 : BitVec 32 := Scalar.muli v33 c16_i32
  let v37 : Index := Scalar.indexCast v34
  ![v36.toNat, v37.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26x32 : Shape := ⟨3, ![16384, 26, 32]⟩
abbrev S130 : Shape := ⟨1, ![130]⟩
abbrev S16384x32x26 : Shape := ⟨3, ![16384, 32, 26]⟩
abbrev S_ : Shape := ⟨0, ![]⟩
abbrev S130x1 : Shape := ⟨2, ![130, 1]⟩
abbrev S1 : Shape := ⟨1, ![1]⟩
abbrev S1x1 : Shape := ⟨2, ![1, 1]⟩
abbrev S16384x32x130 : Shape := ⟨3, ![16384, 32, 130]⟩
abbrev S1x1x130 : Shape := ⟨3, ![1, 1, 130]⟩
abbrev S16384x832 : Shape := ⟨2, ![16384, 832]⟩

abbrev nBuf : Space → Nat
  | .hbm => 84
  | .vmem => 0
  | .smem => 0
  | _ => 0

abbrev bufTy : (tb : Table) → Fin (tcTables nBuf tb) → BufTy
  | .hbm, ⟨0, _⟩ => ⟨S16384x26x32, .f32⟩
  | .hbm, ⟨1, _⟩ => ⟨S130, .f32⟩
  | .hbm, ⟨2, _⟩ => ⟨S130, .f32⟩
  | .hbm, ⟨3, _⟩ => ⟨S130, .i32⟩
  | .hbm, ⟨4, _⟩ => ⟨S130, .i32⟩
  | .hbm, ⟨5, _⟩ => ⟨S16384x32x26, .f32⟩
  | .hbm, ⟨6, _⟩ => ⟨S_, .i32⟩
  | .hbm, ⟨7, _⟩ => ⟨S130, .i32⟩
  | .hbm, ⟨8, _⟩ => ⟨S130, .i1⟩
  | .hbm, ⟨9, _⟩ => ⟨S_, .i32⟩
  | .hbm, ⟨10, _⟩ => ⟨S130, .i32⟩
  | .hbm, ⟨11, _⟩ => ⟨S130, .i32⟩
  | .hbm, ⟨12, _⟩ => ⟨S130, .i32⟩
  | .hbm, ⟨13, _⟩ => ⟨S130x1, .i32⟩
  | .hbm, ⟨14, _⟩ => ⟨S1, .i32⟩
  | .hbm, ⟨15, _⟩ => ⟨S_, .i32⟩
  | .hbm, ⟨16, _⟩ => ⟨S130x1, .i32⟩
  | .hbm, ⟨17, _⟩ => ⟨S130x1, .i1⟩
  | .hbm, ⟨18, _⟩ => ⟨S1x1, .i32⟩
  | .hbm, ⟨19, _⟩ => ⟨S130x1, .i32⟩
  | .hbm, ⟨20, _⟩ => ⟨S130x1, .i1⟩
  | .hbm, ⟨21, _⟩ => ⟨S130x1, .i1⟩
  | .hbm, ⟨22, _⟩ => ⟨S_, .i1⟩
  | .hbm, ⟨23, _⟩ => ⟨S130, .i1⟩
  | .hbm, ⟨24, _⟩ => ⟨S16384x32x130, .f32⟩
  | .hbm, ⟨25, _⟩ => ⟨S16384x32x130, .i1⟩
  | .hbm, ⟨26, _⟩ => ⟨S_, .f32⟩
  | .hbm, ⟨27, _⟩ => ⟨S16384x32x130, .f32⟩
  | .hbm, ⟨28, _⟩ => ⟨S16384x32x130, .f32⟩
  | .hbm, ⟨29, _⟩ => ⟨S1x1x130, .f32⟩
  | .hbm, ⟨30, _⟩ => ⟨S16384x32x130, .f32⟩
  | .hbm, ⟨31, _⟩ => ⟨S16384x32x130, .f32⟩
  | .hbm, ⟨32, _⟩ => ⟨S_, .f32⟩
  | .hbm, ⟨33, _⟩ => ⟨S16384x32x26, .f32⟩
  | .hbm, ⟨34, _⟩ => ⟨S_, .i32⟩
  | .hbm, ⟨35, _⟩ => ⟨S130, .i32⟩
  | .hbm, ⟨36, _⟩ => ⟨S130, .i1⟩
  | .hbm, ⟨37, _⟩ => ⟨S_, .i32⟩
  | .hbm, ⟨38, _⟩ => ⟨S130, .i32⟩
  | .hbm, ⟨39, _⟩ => ⟨S130, .i32⟩
  | .hbm, ⟨40, _⟩ => ⟨S130, .i32⟩
  | .hbm, ⟨41, _⟩ => ⟨S130x1, .i32⟩
  | .hbm, ⟨42, _⟩ => ⟨S16384x32x26, .f32⟩
  | .hbm, ⟨43, _⟩ => ⟨S16384x32x26, .f32⟩
  | .hbm, ⟨44, _⟩ => ⟨S_, .i32⟩
  | .hbm, ⟨45, _⟩ => ⟨S130, .i32⟩
  | .hbm, ⟨46, _⟩ => ⟨S130, .i1⟩
  | .hbm, ⟨47, _⟩ => ⟨S_, .i32⟩
  | .hbm, ⟨48, _⟩ => ⟨S130, .i32⟩
  | .hbm, ⟨49, _⟩ => ⟨S130, .i32⟩
  | .hbm, ⟨50, _⟩ => ⟨S130, .i32⟩
  | .hbm, ⟨51, _⟩ => ⟨S130x1, .i32⟩
  | .hbm, ⟨52, _⟩ => ⟨S1, .i32⟩
  | .hbm, ⟨53, _⟩ => ⟨S_, .i32⟩
  | .hbm, ⟨54, _⟩ => ⟨S130x1, .i32⟩
  | .hbm, ⟨55, _⟩ => ⟨S130x1, .i1⟩
  | .hbm, ⟨56, _⟩ => ⟨S1x1, .i32⟩
  | .hbm, ⟨57, _⟩ => ⟨S130x1, .i32⟩
  | .hbm, ⟨58, _⟩ => ⟨S130x1, .i1⟩
  | .hbm, ⟨59, _⟩ => ⟨S130x1, .i1⟩
  | .hbm, ⟨60, _⟩ => ⟨S_, .i1⟩
  | .hbm, ⟨61, _⟩ => ⟨S130, .i1⟩
  | .hbm, ⟨62, _⟩ => ⟨S16384x32x130, .f32⟩
  | .hbm, ⟨63, _⟩ => ⟨S16384x32x130, .i1⟩
  | .hbm, ⟨64, _⟩ => ⟨S_, .f32⟩
  | .hbm, ⟨65, _⟩ => ⟨S16384x32x130, .f32⟩
  | .hbm, ⟨66, _⟩ => ⟨S16384x32x130, .f32⟩
  | .hbm, ⟨67, _⟩ => ⟨S1x1x130, .f32⟩
  | .hbm, ⟨68, _⟩ => ⟨S16384x32x130, .f32⟩
  | .hbm, ⟨69, _⟩ => ⟨S16384x32x130, .f32⟩
  | .hbm, ⟨70, _⟩ => ⟨S_, .f32⟩
  | .hbm, ⟨71, _⟩ => ⟨S16384x32x26, .f32⟩
  | .hbm, ⟨72, _⟩ => ⟨S_, .i32⟩
  | .hbm, ⟨73, _⟩ => ⟨S130, .i32⟩
  | .hbm, ⟨74, _⟩ => ⟨S130, .i1⟩
  | .hbm, ⟨75, _⟩ => ⟨S_, .i32⟩
  | .hbm, ⟨76, _⟩ => ⟨S130, .i32⟩
  | .hbm, ⟨77, _⟩ => ⟨S130, .i32⟩
  | .hbm, ⟨78, _⟩ => ⟨S130, .i32⟩
  | .hbm, ⟨79, _⟩ => ⟨S130x1, .i32⟩
  | .hbm, ⟨80, _⟩ => ⟨S16384x32x26, .f32⟩
  | .hbm, ⟨81, _⟩ => ⟨S16384x32x26, .f32⟩
  | .hbm, ⟨82, _⟩ => ⟨S16384x26x32, .f32⟩
  | .hbm, ⟨83, _⟩ => ⟨S16384x832, .f32⟩
  | _, _ => ⟨S16384x26x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_c_1 : Ref sig .tc := ⟨.hbm, 34, rfl⟩
abbrev main_v6 : Ref sig .tc := ⟨.hbm, 35, rfl⟩
abbrev main_v7 : Ref sig .tc := ⟨.hbm, 36, rfl⟩
abbrev main_c_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_cst_3 : Ref sig .tc := ⟨.hbm, 70, rfl⟩
abbrev main_v18 : Ref sig .tc := ⟨.hbm, 71, rfl⟩
abbrev main_c_4 : Ref sig .tc := ⟨.hbm, 72, rfl⟩
abbrev main_v19 : Ref sig .tc := ⟨.hbm, 73, rfl⟩
abbrev main_v20 : Ref sig .tc := ⟨.hbm, 74, rfl⟩
abbrev main_c_5 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩

abbrev nD : Nat := 1
abbrev τ : Topo := Topo.v7x

variable {F : FTy → Type} [FloatOps F]
-- ==== Proof.BodyIdeal.lean ====
/-
  The kernel's inner loop, one group of 16 lanes at one of the 32 positions, run by the four buffers it
  touches: the tile's chunk, its row buffer and its two weight tables. `Runs` says that a piece of the body,
  started on given contents of the four, ends at a result and contents satisfying a predicate; one rule per
  kind of access states what the access reads or leaves. The contents on the way have a closed form:
  the first `k` rows of the row buffer hold the first layer (`stH`), the first `n` rows of the group hold
  the second layer (`stA`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.ValueLayout
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The resource algebra: the handshakes' rounds library beside the transfers' counters -/

abbrev 𝒱₀ : Variants := Variants.none
abbrev UH : Type := URounds (GSem nD τ sig) ℕ
abbrev UU : Type := UH × Counters

local notation "𝕄" => MT nD τ sig (HIx 1) (Elt F) ℕ UU ℕ

variable [FloatOps F]

/-! ## The values -/

/-- The place of a two-axis array at row `a`, column `b`. -/
abbrev ij {n m : ℕ} (a b : ℕ) (ha : a < n) (hb : b < m) : (⟨2, ![n, m]⟩ : Shape).Idx := ix2 ⟨a, ha⟩ ⟨b, hb⟩

/-- A lane. -/
abbrev lane (a : ℕ) (ha : a < 16) : S16.Idx := ix1 ⟨a, ha⟩

/-- Word `e` of a weight table. -/
def wd (W : S130.Idx → Elt F .f32) (e : ℕ) : Elt F .f32 := W fun a => ⟨e % S130.size a, Nat.mod_lt _ (by revert a; decide)⟩

/-- Row `f` of group `t` of the chunk, as the group's load gives it. -/
def rowv (A : S832x128.Idx → Elt F .f32) (t f : ℕ) : Vec F S1x16 .f32 :=
  fun l => A (ij ((32 * f + t / 8) % 832) ((t % 8 * 16 + (l 1).val) % 128) (Nat.mod_lt _ (by decide)) (Nat.mod_lt _ (by decide)))

/-- The same as a vector of 16 lanes. -/
def X (A : S832x128.Idx → Elt F .f32) (t f : ℕ) : FVec F S16 .f32 := shapeCast S16 (rowv A t f) shapeCasts_S1x16_S16

/-- The kernel's spelling of the hyperbolic tangent. -/
def act (s : FVec F S16 .f32) : FVec F S16 .f32 :=
  subf (broadcast S16 (Scalar.ofBits .f32 0x3F800000#32))
    (divf (broadcast S16 (Scalar.ofBits .f32 0x40000000#32))
      (addf (exp (mulf s (broadcast S16 (Scalar.ofBits .f32 0x40000000#32)))) (broadcast S16 (Scalar.ofBits .f32 0x3F800000#32))))

/-- The number of the edge from field `(i + o) % 26` into field `i`: edges are numbered by their source, five each,
    and among those of one source by their destination. -/
def edge (o i : ℕ) : ℕ :=
  5 * ((i + o) % 26) + (if ((i + o) % 26 + 26 - 1) % 26 < i then 1 else 0) + (if ((i + o) % 26 + 26 - 5) % 26 < i then 1 else 0)
    + (if ((i + o) % 26 + 26 - 7) % 26 < i then 1 else 0) + (if ((i + o) % 26 + 26 - 11) % 26 < i then 1 else 0)
    + (if ((i + o) % 26 + 26 - 13) % 26 < i then 1 else 0)

/-- One edge's term: the source row times the edge's weight in every lane. -/
def term (W : S130.Idx → Elt F .f32) (R : ℕ → FVec F S16 .f32) (o i : ℕ) : FVec F S16 .f32 :=
  mulf (R ((i + o) % 26)) (broadcast S16 (wd W (edge o i)))

/-- The five edges' sum into field `i`, in the kernel's order of addition. -/
def lin (W : S130.Idx → Elt F .f32) (R : ℕ → FVec F S16 .f32) (i : ℕ) : FVec F S16 .f32 :=
  addf (addf (addf (term W R 1 i) (term W R 5 i)) (addf (term W R 7 i) (term W R 11 i))) (term W R 13 i)

/-- One layer on the rows `R`. -/
def lay (W : S130.Idx → Elt F .f32) (R : ℕ → FVec F S16 .f32) (i : ℕ) : FVec F S16 .f32 := act (lin W R i)

/-- A row as the row buffer holds it. -/
def hrow (Y : ℕ → FVec F S16 .f32) (f : ℕ) : Vec F S1x16 .f32 := shapeCast S1x16 (Y f) shapeCasts_S16_S1x16
/-- A row read back from the row buffer. -/
def back (Y : ℕ → FVec F S16 .f32) (f : ℕ) : FVec F S16 .f32 := shapeCast S16 (hrow Y f) shapeCasts_S1x16_S16

/-- The first layer of group `t` of the chunk `A`. -/
def Y1 (A : S832x128.Idx → Elt F .f32) (W0 : S130.Idx → Elt F .f32) (t : ℕ) : ℕ → FVec F S16 .f32 := lay W0 (X A t)
/-- The second. -/
def Y2 (A : S832x128.Idx → Elt F .f32) (W0 W1 : S130.Idx → Elt F .f32) (t : ℕ) : ℕ → FVec F S16 .f32 := lay W1 (back (Y1 A W0 t))

/-- The chunk with the first `n` rows of group `t` replaced by `Y`. -/
def stA (A : S832x128.Idx → Elt F .f32) (t : ℕ) (Y : ℕ → FVec F S16 .f32) (n : ℕ) : S832x128.Idx → Elt F .f32 :=
  fun x => if ((x 0).val % 32 = t / 8 ∧ (x 1).val / 16 = t % 8) ∧ (x 0).val / 32 < n
    then Y ((x 0).val / 32) (lane ((x 1).val % 16) (Nat.mod_lt _ (by decide))) else A x

/-- The row buffer with its first `n` rows replaced by `Y`. -/
def stH (H : S26x16.Idx → Elt F .f32) (Y : ℕ → FVec F S16 .f32) (n : ℕ) : S26x16.Idx → Elt F .f32 :=
  fun x => if (x 0).val < n then Y (x 0).val (lane (x 1).val (x 1).isLt) else H x

theorem stA_zero (A : S832x128.Idx → Elt F .f32) (t : ℕ) (Y : ℕ → FVec F S16 .f32) : stA A t Y 0 = A := by
  funext x; simp [stA]
theorem stH_zero (H : S26x16.Idx → Elt F .f32) (Y : ℕ → FVec F S16 .f32) : stH H Y 0 = H := by
  funext x; simp [stH]

/-! ## The four buffers -/

local notation "bV" => (Memref.whole Cert.KernelIdeal.cc0_scratch0 : Memref Cert.KernelIdeal.sig Kind.scVector Space.vmem Cert.KernelIdeal.S832x128 EltTy.f32)
local notation "hV" => (Memref.whole Cert.KernelIdeal.cc0_scratch1 : Memref Cert.KernelIdeal.sig Kind.scVector Space.vmem Cert.KernelIdeal.S26x16 EltTy.f32)
local notation "uV" => (Memref.whole Cert.KernelIdeal.cc0_scratch2 : Memref Cert.KernelIdeal.sig Kind.scVector Space.smem Cert.KernelIdeal.S130 EltTy.f32)
local notation "wV" => (Memref.whole Cert.KernelIdeal.cc0_scratch3 : Memref Cert.KernelIdeal.sig Kind.scVector Space.smem Cert.KernelIdeal.S130 EltTy.f32)

abbrev cV (L : grid0.Coords) : Fin τ.nSC := (L 0).castLE hcore0
abbrev jV (L : grid0.Coords) : Fin τ.nSub := (L 1).castLE hsub0

/-- Contents of the four buffers. -/
structure St (F : FTy → Type) where
  A : S832x128.Idx → Elt F .f32
  H : S26x16.Idx → Elt F .f32
  W0 : S130.Idx → Elt F .f32
  W1 : S130.Idx → Elt F .f32

section Run

variable (d : Dev nD) (L : grid0.Coords)

/-- The four buffers of the tile, held whole at these contents. -/
def own (s : St F) : sProp 𝕄 :=
  iprop(((bV).view.loc (V d (cV L) (jV L)) ↦{fullShare} s.A) ∗ ((hV).view.loc (V d (cV L) (jV L)) ↦{fullShare} s.H)
    ∗ ((uV).view.loc (V d (cV L) (jV L)) ↦{fullShare} s.W0) ∗ ((wV).view.loc (V d (cV L) (jV L)) ↦{fullShare} s.W1))

/-- Started on contents `s`, the program `p` ends at a result and contents satisfying `P`. -/
def Runs {α : Type} (p : Prog (TpuEff nD τ sig (Elt F) Λ₀ (.scVector (cV L) (jV L))) α) (s : St F) (P : α → St F → Prop) : Prop :=
  ∀ Q : α → sProp 𝕄, (∀ v s', P v s' → (own d L s' ⊢ Q v)) →
    (own d L s ⊢ wp frame (wpE (defs₀ (F := F)) 𝒱₀ (V d (cV L) (jV L)) none) Set.univ p Q)

variable {d L}
variable {α β : Type} {s : St F} {P : α → St F → Prop}

theorem Runs.ret {v : α} (h : P v s) : Runs d L (Pure.pure v) s P := fun Q hQ =>
  (hQ v s h).trans (le_wp_ret frame _ _ v Q)

theorem Runs.bind {p : Prog (TpuEff nD τ sig (Elt F) Λ₀ (.scVector (cV L) (jV L))) β}
    {k : β → Prog (TpuEff nD τ sig (Elt F) Λ₀ (.scVector (cV L) (jV L))) α}
    (h : Runs d L p s fun v s' => Runs d L (k v) s' P) : Runs d L (p >>= k) s P := fun Q hQ => by
  rw [wp_bind]
  exact h _ fun v s' hv => hv Q hQ

theorem Runs.mono {p : Prog (TpuEff nD τ sig (Elt F) Λ₀ (.scVector (cV L) (jV L))) α} {P' : α → St F → Prop}
    (h : Runs d L p s P') (hP : ∀ v s', P' v s' → P v s') : Runs d L p s P := fun Q hQ => h Q fun v s' hv => hQ v s' (hP v s' hv)

/-- A program ends where its answer alone is returned. -/
theorem Runs.tail {p : Prog (TpuEff nD τ sig (Elt F) Λ₀ (.scVector (cV L) (jV L))) α} (h : Runs d L (p >>= Pure.pure) s P) : Runs d L p s P := by
  rwa [bind_pure] at h

/-! ### One access -/

theorem Runs.loadB {r : LoadRect S832x128} {hl : (bV).view.LoadsAt r}
    {k : (r.shape.Idx → Elt F .f32) → Prog (TpuEff nD τ sig (Elt F) Λ₀ (.scVector (cV L) (jV L))) α}
    (h : Runs d L (k ((bV).view.readAt (Elt F) r s.A)) s P) : Runs d L (Prog.lift (.load bV r hl) >>= k) s P := fun Q hQ => by
  show _ ⊢ wp _ _ _ (.op (.load bV r hl) k) Q
  have h1 := h Q hQ
  unfold own at h1 ⊢
  iintro ⟨HA, HH, H0, H1⟩
  iapply (wp_load 𝒱₀ (V d (cV L) (jV L)) none Set.univ (m := bV) (S := Finset.univ) (Finset.subset_univ _)) $$ HA
  iintro HA
  iapply h1
  isplitl [HA]; · iexact HA
  isplitl [HH]; · iexact HH
  isplitl [H0]; · iexact H0
  iexact H1

theorem Runs.loadH {r : LoadRect S26x16} {hl : (hV).view.LoadsAt r}
    {k : (r.shape.Idx → Elt F .f32) → Prog (TpuEff nD τ sig (Elt F) Λ₀ (.scVector (cV L) (jV L))) α}
    (h : Runs d L (k ((hV).view.readAt (Elt F) r s.H)) s P) : Runs d L (Prog.lift (.load hV r hl) >>= k) s P := fun Q hQ => by
  show _ ⊢ wp _ _ _ (.op (.load hV r hl) k) Q
  have h1 := h Q hQ
  unfold own at h1 ⊢
  iintro ⟨HA, HH, H0, H1⟩
  iapply (wp_load 𝒱₀ (V d (cV L) (jV L)) none Set.univ (m := hV) (S := Finset.univ) (Finset.subset_univ _)) $$ HH
  iintro HH
  iapply h1
  isplitl [HA]; · iexact HA
  isplitl [HH]; · iexact HH
  isplitl [H0]; · iexact H0
  iexact H1

theorem Runs.storeB {r : Rect S832x128} {w : r.shape.Idx → Elt F .f32} {hx : ((bV).access r).Stores Finset.univ}
    {hm : Finset.univ = Finset.univ ∨ ∀ a, r.stride a = 1}
    {k : PUnit → Prog (TpuEff nD τ sig (Elt F) Λ₀ (.scVector (cV L) (jV L))) α}
    (h : Runs d L (k ⟨⟩) ⟨((bV).access r).write (Elt F) s.A w Finset.univ, s.H, s.W0, s.W1⟩ P) :
    Runs d L (Prog.lift (.store bV r w Finset.univ hx hm) >>= k) s P := fun Q hQ => by
  show _ ⊢ wp _ _ _ (.op (.store bV r w Finset.univ hx hm) k) Q
  have h1 := h Q hQ
  unfold own at h1 ⊢
  iintro ⟨HA, HH, H0, H1⟩
  have hw := wp_store (defs := defs₀ (F := F)) 𝒱₀ (V d (cV L) (jV L)) none (Γ := .empty) Set.univ (Q := Q) (m := bV) (r := r)
    (w := w) (hx := hx) (hm := hm) (k := k) (S := Finset.univ) (f := s.A) (Finset.subset_univ _)
  iapply hw $$ [HA]
  · iexact HA
  iintro HA
  iapply h1
  isplitl [HA]; · iexact HA
  isplitl [HH]; · iexact HH
  isplitl [H0]; · iexact H0
  iexact H1

theorem Runs.storeH {r : Rect S26x16} {w : r.shape.Idx → Elt F .f32} {hx : ((hV).access r).Stores Finset.univ}
    {hm : Finset.univ = Finset.univ ∨ ∀ a, r.stride a = 1}
    {k : PUnit → Prog (TpuEff nD τ sig (Elt F) Λ₀ (.scVector (cV L) (jV L))) α}
    (h : Runs d L (k ⟨⟩) ⟨s.A, ((hV).access r).write (Elt F) s.H w Finset.univ, s.W0, s.W1⟩ P) :
    Runs d L (Prog.lift (.store hV r w Finset.univ hx hm) >>= k) s P := fun Q hQ => by
  show _ ⊢ wp _ _ _ (.op (.store hV r w Finset.univ hx hm) k) Q
  have h1 := h Q hQ
  unfold own at h1 ⊢
  iintro ⟨HA, HH, H0, H1⟩
  have hw := wp_store (defs := defs₀ (F := F)) 𝒱₀ (V d (cV L) (jV L)) none (Γ := .empty) Set.univ (Q := Q) (m := hV) (r := r)
    (w := w) (hx := hx) (hm := hm) (k := k) (S := Finset.univ) (f := s.H) (Finset.subset_univ _)
  iapply hw $$ [HH]
  · iexact HH
  iintro HH
  iapply h1
  isplitl [HA]; · iexact HA
  isplitl [HH]; · iexact HH
  isplitl [H0]; · iexact H0
  iexact H1

theorem Runs.word0 {r : Rect S130} {h1 : r.shape.numel = 1} {hp : EltTy.packing EltTy.f32 = 1}
    {k : Elt F .f32 → Prog (TpuEff nD τ sig (Elt F) Λ₀ (.scVector (cV L) (jV L))) α}
    (h : Runs d L (k (((uV).access r).read (Elt F) s.W0 (Shape.Idx.first (h1.symm ▸ Nat.one_pos)))) s P) :
    Runs d L (smemLoad uV r h1 hp >>= k) s P := fun Q hQ => by
  show _ ⊢ wp _ _ _ (smemLoadElt uV r (View.loads_smem_one hp h1) (Shape.Idx.first (h1.symm ▸ Nat.one_pos)) k) Q
  have h2 := h Q hQ
  unfold own at h2 ⊢
  iintro ⟨HA, HH, H0, H1⟩
  have hw := wp_smemLoadElt (defs := defs₀ (F := F)) 𝒱₀ (V d (cV L) (jV L)) none (Γ := .empty) Set.univ (Q := Q) (m := uV) (r := r)
    (hw := View.loads_smem_one hp h1) (x := Shape.Idx.first (h1.symm ▸ Nat.one_pos)) (q := fullShare) (k := k) (S := Finset.univ) (f := s.W0) (Finset.subset_univ _)
  iapply hw $$ [H0]
  · iexact H0
  iintro H0
  iapply h2
  isplitl [HA]; · iexact HA
  isplitl [HH]; · iexact HH
  isplitl [H0]; · iexact H0
  iexact H1

theorem Runs.word1 {r : Rect S130} {h1 : r.shape.numel = 1} {hp : EltTy.packing EltTy.f32 = 1}
    {k : Elt F .f32 → Prog (TpuEff nD τ sig (Elt F) Λ₀ (.scVector (cV L) (jV L))) α}
    (h : Runs d L (k (((wV).access r).read (Elt F) s.W1 (Shape.Idx.first (h1.symm ▸ Nat.one_pos)))) s P) :
    Runs d L (smemLoad wV r h1 hp >>= k) s P := fun Q hQ => by
  show _ ⊢ wp _ _ _ (smemLoadElt wV r (View.loads_smem_one hp h1) (Shape.Idx.first (h1.symm ▸ Nat.one_pos)) k) Q
  have h2 := h Q hQ
  unfold own at h2 ⊢
  iintro ⟨HA, HH, H0, H1⟩
  have hw := wp_smemLoadElt (defs := defs₀ (F := F)) 𝒱₀ (V d (cV L) (jV L)) none (Γ := .empty) Set.univ (Q := Q) (m := wV) (r := r)
    (hw := View.loads_smem_one hp h1) (x := Shape.Idx.first (h1.symm ▸ Nat.one_pos)) (q := fullShare) (k := k) (S := Finset.univ) (f := s.W1) (Finset.subset_univ _)
  iapply hw $$ [H1]
  · iexact H1
  iintro H1
  iapply h2
  isplitl [HA]; · iexact HA
  isplitl [HH]; · iexact HH
  isplitl [H0]; · iexact H0
  iexact H1

/-! ### The same at the closed forms -/

theorem k0_off3_eq : ∀ (t : Fin k0_t2_loop.trips) (f : Fin 26),
    k0_off3 t (BitVec.ofNat 32 (32 * f.val)) = ![32 * f.val + t.val / 8, t.val % 8 * 16] := by decide +kernel

theorem trips2 : k0_t2_loop.trips = 256 := by decide +kernel

/-- The contents on the way through group `t`: `n` rows of the second layer stored, `k` of the first. -/
def stt (A : S832x128.Idx → Elt F .f32) (H : S26x16.Idx → Elt F .f32) (W0 W1 : S130.Idx → Elt F .f32) (t : ℕ) (n k : ℕ) : St F :=
  ⟨stA A t (Y2 A W0 W1 t) n, stH H (Y1 A W0 t) k, W0, W1⟩

variable {A : S832x128.Idx → Elt F .f32} {H : S26x16.Idx → Elt F .f32} {W0 W1 : S130.Idx → Elt F .f32} {t : Fin k0_t2_loop.trips} {n kk : ℕ}

theorem off3_val (f : ℕ) (hf : f < 26) (a : Fin 2) : k0_off3 t (BitVec.ofNat 32 (32 * f)) a = (![32 * f + t.val / 8, t.val % 8 * 16] : Fin 2 → ℕ) a :=
  congrFun (k0_off3_eq t ⟨f, hf⟩) a

theorem rowv_eq (f : ℕ) (hf : f < 26) {c : BitVec 32} (hc : c = BitVec.ofNat 32 (32 * f))
    (inb : ∀ a, k0_off3 t c a + S1x16.size a ≤ S832x128.size a) :
    (bV).view.readAt (Elt F) (Rect.unit (s := S832x128) (k0_off3 t c) S1x16.size inb).toLoadRect A = rowv A t.val f := by
  subst hc
  funext l
  have ht : t.val < 256 := lt_of_lt_of_eq t.isLt trips2
  have hl : (l 1).val < 16 := (l 1).isLt
  have hl0 : (l 0).val < 1 := (l 0).isLt
  show A ((Rect.unit (s := S832x128) (k0_off3 t _) S1x16.size inb).emb l) = _
  refine congrArg A (funext fun a => Fin.ext ?_)
  rw [Rect.emb_apply]
  match a with
  | 0 =>
    show k0_off3 t (BitVec.ofNat 32 (32 * f)) 0 + 1 * (l 0).val = (32 * f + t.val / 8) % 832
    have e := off3_val (t := t) f hf 0
    have e' : k0_off3 t (BitVec.ofNat 32 (32 * f)) 0 = 32 * f + t.val / 8 := e
    omega
  | 1 =>
    show k0_off3 t (BitVec.ofNat 32 (32 * f)) 1 + 1 * (l 1).val = (t.val % 8 * 16 + (l 1).val) % 128
    have e := off3_val (t := t) f hf 1
    have e' : k0_off3 t (BitVec.ofNat 32 (32 * f)) 1 = t.val % 8 * 16 := e
    omega

theorem Runs.row (f : ℕ) (hf : f < 26) {c : BitVec 32} (hc : c = BitVec.ofNat 32 (32 * f))
    {inb : ∀ a, k0_off3 t c a + S1x16.size a ≤ S832x128.size a}
    {hl : (bV).view.LoadsAt (Rect.unit (s := S832x128) (k0_off3 t c) S1x16.size inb).toLoadRect}
    {k : Vec F S1x16 .f32 → Prog (TpuEff nD τ sig (Elt F) Λ₀ (.scVector (cV L) (jV L))) α}
    (h : Runs d L (k (rowv A t.val f)) (stt A H W0 W1 t.val 0 kk) P) :
    Runs d L (Prog.lift (.load bV (Rect.unit (s := S832x128) (k0_off3 t c) S1x16.size inb).toLoadRect hl) >>= k) (stt A H W0 W1 t.val 0 kk) P := by
  refine Runs.loadB ?_
  have e := rowv_eq (F := F) (A := stA A t.val (Y2 A W0 W1 t.val) 0) f hf hc inb
  refine (congrArg (fun x => Runs d L (k x) (stt A H W0 W1 t.val 0 kk) P) e).mpr ?_
  rw [stA_zero]; exact h

theorem wd_eq (W : S130.Idx → Elt F .f32) (e : ℕ) (inb : ∀ a, (![e] : Fin 1 → ℕ) a + S1.size a ≤ S130.size a)
    (y : (Rect.unit (s := S130) ![e] S1.size inb).shape.Idx) : W ((Rect.unit (s := S130) ![e] S1.size inb).emb y) = wd W e := by
  refine congrArg W (funext fun a => Fin.ext ?_)
  obtain rfl : a = 0 := Subsingleton.elim _ _
  have hb := inb 0
  rw [Rect.emb_apply]
  have hy : (y 0).val < 1 := (y 0).isLt
  have hb' : e + 1 ≤ 130 := hb
  show e + 1 * (y 0).val = e % 130
  omega

theorem Runs.w0 (e : ℕ) {inb : ∀ a, (![e] : Fin 1 → ℕ) a + S1.size a ≤ S130.size a} {h1 : (Rect.unit (s := S130) ![e] S1.size inb).shape.numel = 1}
    {hp : EltTy.packing EltTy.f32 = 1} {k : Elt F .f32 → Prog (TpuEff nD τ sig (Elt F) Λ₀ (.scVector (cV L) (jV L))) α}
    (h : Runs d L (k (wd W0 e)) (stt A H W0 W1 t.val n kk) P) :
    Runs d L (smemLoad uV (Rect.unit (s := S130) ![e] S1.size inb) h1 hp >>= k) (stt A H W0 W1 t.val n kk) P := by
  refine Runs.word0 ?_
  exact (congrArg (fun x => Runs d L (k x) (stt A H W0 W1 t.val n kk) P) (wd_eq W0 e inb _)).mpr h

theorem Runs.w1 (e : ℕ) {inb : ∀ a, (![e] : Fin 1 → ℕ) a + S1.size a ≤ S130.size a} {h1 : (Rect.unit (s := S130) ![e] S1.size inb).shape.numel = 1}
    {hp : EltTy.packing EltTy.f32 = 1} {k : Elt F .f32 → Prog (TpuEff nD τ sig (Elt F) Λ₀ (.scVector (cV L) (jV L))) α}
    (h : Runs d L (k (wd W1 e)) (stt A H W0 W1 t.val n kk) P) :
    Runs d L (smemLoad wV (Rect.unit (s := S130) ![e] S1.size inb) h1 hp >>= k) (stt A H W0 W1 t.val n kk) P := by
  refine Runs.word1 ?_
  exact (congrArg (fun x => Runs d L (k x) (stt A H W0 W1 t.val n kk) P) (wd_eq W1 e inb _)).mpr h

/-- A row of the first layer read back. -/
theorem Runs.hload (f : ℕ) (hf : f < kk) {inb : ∀ a, (![f, 0] : Fin 2 → ℕ) a + S1x16.size a ≤ S26x16.size a}
    {hl : (hV).view.LoadsAt (Rect.unit (s := S26x16) ![f, 0] S1x16.size inb).toLoadRect}
    {k : Vec F S1x16 .f32 → Prog (TpuEff nD τ sig (Elt F) Λ₀ (.scVector (cV L) (jV L))) α}
    (h : Runs d L (k (hrow (Y1 A W0 t.val) f)) (stt A H W0 W1 t.val n kk) P) :
    Runs d L (Prog.lift (.load hV (Rect.unit (s := S26x16) ![f, 0] S1x16.size inb).toLoadRect hl) >>= k) (stt A H W0 W1 t.val n kk) P := by
  refine Runs.loadH ?_
  have e1 : (hV).view.readAt (Elt F) (Rect.unit (s := S26x16) ![f, 0] S1x16.size inb).toLoadRect (stH H (Y1 A W0 t.val) kk) = hrow (Y1 A W0 t.val) f := by
    funext l
    have hl0 : (l 0).val < 1 := (l 0).isLt
    show stH H (Y1 A W0 t.val) kk ((Rect.unit (s := S26x16) ![f, 0] S1x16.size inb).emb l) = _
    have hb : f + 1 ≤ 26 := inb 0
    have e2 : (Rect.unit (s := S26x16) ![f, 0] S1x16.size inb).emb l = ix2 ⟨f, hb⟩ (l 1) := by
      funext a; refine Fin.ext ?_
      rw [Rect.emb_apply]
      match a with
      | 0 => show f + 1 * (l 0).val = f; omega
      | 1 => show 0 + 1 * (l 1).val = (l 1).val; omega
    rw [e2]
    have el : l = ix2 0 (l 1) := by
      funext a
      match a with
      | 0 => exact Subsingleton.elim (α := Fin 1) _ _
      | 1 => rfl
    refine (if_pos (c := f < kk) hf).trans ?_
    refine (shapeCast_a_1a_apply (Y1 A W0 t.val f) shapeCasts_S16_S1x16 0 (l 1)).symm.trans ?_
    exact congrArg (hrow (Y1 A W0 t.val) f) el.symm
  exact (congrArg (fun x => Runs d L (k x) (stt A H W0 W1 t.val n kk) P) e1).mpr h

/-- A row of the first layer stored. -/
theorem Runs.hstore {inb : ∀ a, (![kk, 0] : Fin 2 → ℕ) a + S1x16.size a ≤ S26x16.size a} (w : Vec F S1x16 .f32)
    (hw : w = hrow (Y1 A W0 t.val) kk) {hx : ((hV).access (Rect.unit (s := S26x16) ![kk, 0] S1x16.size inb)).Stores Finset.univ}
    {hm : (Finset.univ : Finset (Rect.unit (s := S26x16) ![kk, 0] S1x16.size inb).shape.Idx) = Finset.univ ∨ ∀ a, (Rect.unit (s := S26x16) ![kk, 0] S1x16.size inb).stride a = 1}
    {k : PUnit → Prog (TpuEff nD τ sig (Elt F) Λ₀ (.scVector (cV L) (jV L))) α}
    (h : Runs d L (k ⟨⟩) (stt A H W0 W1 t.val n (kk + 1)) P) :
    Runs d L (Prog.lift (.store hV (Rect.unit (s := S26x16) ![kk, 0] S1x16.size inb) w Finset.univ hx hm) >>= k) (stt A H W0 W1 t.val n kk) P := by
  refine Runs.storeH ?_
  subst hw
  have hb : kk + 1 ≤ 26 := inb 0
  have e2 : ∀ l, (Rect.unit (s := S26x16) ![kk, 0] S1x16.size inb).emb l = ix2 ⟨kk, hb⟩ (l 1) := by
    intro l
    have hl0 : (l 0).val < 1 := (l 0).isLt
    funext a; refine Fin.ext ?_
    rw [Rect.emb_apply]
    match a with
    | 0 => show kk + 1 * (l 0).val = kk; omega
    | 1 => show 0 + 1 * (l 1).val = (l 1).val; omega
  have e1 : ((hV).access (Rect.unit (s := S26x16) ![kk, 0] S1x16.size inb)).write (Elt F) (stH H (Y1 A W0 t.val) kk) (hrow (Y1 A W0 t.val) kk) Finset.univ
      = stH H (Y1 A W0 t.val) (kk + 1) := by
    funext x
    by_cases hx0 : (x 0).val = kk
    · have ex : ((hV).access (Rect.unit (s := S26x16) ![kk, 0] S1x16.size inb)).emb (ix2 0 (x 1)) = x := by
        refine (e2 (ix2 0 (x 1))).trans ?_
        funext a
        match a with
        | 0 => exact Fin.ext hx0.symm
        | 1 => rfl
      have h3 := View.write_emb_of_mem (Val := Elt F) (v := (hV).access (Rect.unit (s := S26x16) ![kk, 0] S1x16.size inb)) (stH H (Y1 A W0 t.val) kk)
        (hrow (Y1 A W0 t.val) kk) (Finset.mem_univ (ix2 0 (x 1)))
      refine (congrArg (((hV).access (Rect.unit (s := S26x16) ![kk, 0] S1x16.size inb)).write (Elt F) (stH H (Y1 A W0 t.val) kk)
        (hrow (Y1 A W0 t.val) kk) Finset.univ) ex.symm).trans (h3.trans ?_)
      have h4 : stH H (Y1 A W0 t.val) (kk + 1) x = Y1 A W0 t.val (x 0).val (lane (x 1).val (x 1).isLt) := if_pos (by omega)
      rw [h4, hx0]
      exact shapeCast_a_1a_apply (Y1 A W0 t.val kk) shapeCasts_S16_S1x16 0 (x 1)
    · refine (View.write_of_not_mem _ _ _ fun hmem => hx0 ?_).trans ?_
      · obtain ⟨l, -, hl⟩ := Finset.mem_map.mp hmem
        have h5 : (Rect.unit (s := S26x16) ![kk, 0] S1x16.size inb).emb l = x := hl
        rw [← h5, e2]; rfl
      · show (if (x 0).val < kk then _ else _) = (if (x 0).val < kk + 1 then _ else _)
        by_cases h6 : (x 0).val < kk
        · rw [if_pos h6, if_pos (by omega)]
        · rw [if_neg h6, if_neg (by omega)]
  exact (congrArg (fun x => Runs d L (k ⟨⟩) ⟨stA A t.val (Y2 A W0 W1 t.val) n, x, W0, W1⟩ P) e1).mpr h

/-- A row of the second layer stored. -/
theorem Runs.bstore {c : BitVec 32} (hc : c = BitVec.ofNat 32 (32 * n)) (hn : n < 26) {inb : ∀ a, k0_off3 t c a + S1x16.size a ≤ S832x128.size a} (w : Vec F S1x16 .f32)
    (hw : w = hrow (Y2 A W0 W1 t.val) n) {hx : ((bV).access (Rect.unit (s := S832x128) (k0_off3 t c) S1x16.size inb)).Stores Finset.univ}
    {hm : (Finset.univ : Finset (Rect.unit (s := S832x128) (k0_off3 t c) S1x16.size inb).shape.Idx) = Finset.univ ∨ ∀ a, (Rect.unit (s := S832x128) (k0_off3 t c) S1x16.size inb).stride a = 1}
    {k : PUnit → Prog (TpuEff nD τ sig (Elt F) Λ₀ (.scVector (cV L) (jV L))) α}
    (h : Runs d L (k ⟨⟩) (stt A H W0 W1 t.val (n + 1) kk) P) :
    Runs d L (Prog.lift (.store bV (Rect.unit (s := S832x128) (k0_off3 t c) S1x16.size inb) w Finset.univ hx hm) >>= k) (stt A H W0 W1 t.val n kk) P := by
  refine Runs.storeB ?_
  subst hw hc
  have ht : t.val < 256 := lt_of_lt_of_eq t.isLt trips2
  have o0 : k0_off3 t (BitVec.ofNat 32 (32 * n)) 0 = 32 * n + t.val / 8 := off3_val (t := t) n hn 0
  have o1 : k0_off3 t (BitVec.ofNat 32 (32 * n)) 1 = t.val % 8 * 16 := off3_val (t := t) n hn 1
  have e2 : ∀ l, (Rect.unit (s := S832x128) (k0_off3 t (BitVec.ofNat 32 (32 * n))) S1x16.size inb).emb l
      = ix2 ⟨32 * n + t.val / 8, by omega⟩ ⟨t.val % 8 * 16 + (l 1).val, by have h7 : (l 1).val < 16 := (l 1).isLt; omega⟩ := by
    intro l
    have hl0 : (l 0).val < 1 := (l 0).isLt
    funext a; refine Fin.ext ?_
    rw [Rect.emb_apply]
    match a with
    | 0 => show k0_off3 t (BitVec.ofNat 32 (32 * n)) 0 + 1 * (l 0).val = 32 * n + t.val / 8; omega
    | 1 => show k0_off3 t (BitVec.ofNat 32 (32 * n)) 1 + 1 * (l 1).val = t.val % 8 * 16 + (l 1).val; omega
  have e1 : ((bV).access (Rect.unit (s := S832x128) (k0_off3 t (BitVec.ofNat 32 (32 * n))) S1x16.size inb)).write (Elt F) (stA A t.val (Y2 A W0 W1 t.val) n)
      (hrow (Y2 A W0 W1 t.val) n) Finset.univ = stA A t.val (Y2 A W0 W1 t.val) (n + 1) := by
    funext x
    by_cases hx0 : ((x 0).val % 32 = t.val / 8 ∧ (x 1).val / 16 = t.val % 8) ∧ (x 0).val / 32 = n
    · have hlt : (x 1).val % 16 < 16 := Nat.mod_lt _ (by decide)
      have ex : ((bV).access (Rect.unit (s := S832x128) (k0_off3 t (BitVec.ofNat 32 (32 * n))) S1x16.size inb)).emb (ix2 0 ⟨(x 1).val % 16, hlt⟩) = x := by
        refine (e2 (ix2 0 ⟨(x 1).val % 16, hlt⟩)).trans ?_
        funext a
        refine Fin.ext ?_
        match a with
        | 0 => show 32 * n + t.val / 8 = (x 0).val; omega
        | 1 => show t.val % 8 * 16 + (x 1).val % 16 = (x 1).val; omega
      have h3 := View.write_emb_of_mem (Val := Elt F) (v := (bV).access (Rect.unit (s := S832x128) (k0_off3 t (BitVec.ofNat 32 (32 * n))) S1x16.size inb))
        (stA A t.val (Y2 A W0 W1 t.val) n) (hrow (Y2 A W0 W1 t.val) n) (Finset.mem_univ (ix2 0 ⟨(x 1).val % 16, hlt⟩))
      refine (congrArg (((bV).access (Rect.unit (s := S832x128) (k0_off3 t (BitVec.ofNat 32 (32 * n))) S1x16.size inb)).write (Elt F) (stA A t.val (Y2 A W0 W1 t.val) n)
        (hrow (Y2 A W0 W1 t.val) n) Finset.univ) ex.symm).trans (h3.trans ?_)
      have h4 : stA A t.val (Y2 A W0 W1 t.val) (n + 1) x = Y2 A W0 W1 t.val ((x 0).val / 32) (lane ((x 1).val % 16) hlt) := if_pos ⟨hx0.1, by omega⟩
      rw [h4, hx0.2]
      exact shapeCast_a_1a_apply (Y2 A W0 W1 t.val n) shapeCasts_S16_S1x16 0 ⟨(x 1).val % 16, hlt⟩
    · refine (View.write_of_not_mem _ _ _ fun hmem => hx0 ?_).trans ?_
      · obtain ⟨l, -, hl⟩ := Finset.mem_map.mp hmem
        have h5 : (Rect.unit (s := S832x128) (k0_off3 t (BitVec.ofNat 32 (32 * n))) S1x16.size inb).emb l = x := hl
        have hl1 : (l 1).val < 16 := (l 1).isLt
        rw [← h5, e2]
        show ((32 * n + t.val / 8) % 32 = t.val / 8 ∧ (t.val % 8 * 16 + (l 1).val) / 16 = t.val % 8) ∧ (32 * n + t.val / 8) / 32 = n
        omega
      · show (if _ ∧ (x 0).val / 32 < n then _ else _) = (if _ ∧ (x 0).val / 32 < n + 1 then _ else _)
        by_cases h6 : ((x 0).val % 32 = t.val / 8 ∧ (x 1).val / 16 = t.val % 8) ∧ (x 0).val / 32 < n
        · rw [if_pos h6, if_pos ⟨h6.1, by omega⟩]
        · rw [if_neg h6, if_neg (by omega)]
  exact (congrArg (fun x => Runs d L (k ⟨⟩) ⟨x, stH H (Y1 A W0 t.val) kk, W0, W1⟩ P) e1).mpr h

end Run

end Cert.Proof.KernelIdeal

end
-- ==== Proof.PartsIdeal.lean ====
/-
  The inner loop's body, part by part: each theorem steps through one of the body's consecutive parts, from the
  contents its first access meets to the contents its last one leaves, the values it hands to later parts spelt out.
  `group_runs` chains them: one trip of the inner loop replaces group `t`'s 26 rows by the two layers' result.
-/
module

public import proofs.«01_k».proof.Proof.BodyIdeal

@[expose] public section

noncomputable section

namespace Cert.Proof.KernelIdeal

open Cert.KernelIdeal Cert.KernelIdeal.Gen

open Idealize.ShloMosaic
open Idealize.ShloMosaic.SparseCore (S V T)
open Idealize.SL Idealize.SL.Sem

variable {F : FTy → Type} [FloatOps F]

local notation "bV" => (Memref.whole Cert.KernelIdeal.cc0_scratch0 : Memref Cert.KernelIdeal.sig Kind.scVector Space.vmem Cert.KernelIdeal.S832x128 EltTy.f32)
local notation "hV" => (Memref.whole Cert.KernelIdeal.cc0_scratch1 : Memref Cert.KernelIdeal.sig Kind.scVector Space.vmem Cert.KernelIdeal.S26x16 EltTy.f32)
local notation "uV" => (Memref.whole Cert.KernelIdeal.cc0_scratch2 : Memref Cert.KernelIdeal.sig Kind.scVector Space.smem Cert.KernelIdeal.S130 EltTy.f32)
local notation "wV" => (Memref.whole Cert.KernelIdeal.cc0_scratch3 : Memref Cert.KernelIdeal.sig Kind.scVector Space.smem Cert.KernelIdeal.S130 EltTy.f32)

variable {d : Dev nD} {L : grid0.Coords}
variable {arg2 : Memref sig .scVector .hbm S832x16384 .f32} {harg2 : arg2.IsWhole} {arg3 : Memref sig .scVector .hbm S130 .f32} {harg3 : arg3.IsWhole}
  {arg4 : Memref sig .scVector .hbm S130 .f32} {harg4 : arg4.IsWhole} {arg5 : Memref sig .scVector .hbm S832x16384 .f32} {harg5 : arg5.IsWhole}
  {arg10 : Memref sig .scVector .shared S16x130 .f32} {harg10 : arg10.IsWhole} {arg11 : Memref sig .scVector .shared S16x130 .f32} {harg11 : arg11.IsWhole}
  {r0 r1 r2 r3 r4 r5 : DmaSems sig S_}
variable {A : S832x128.Idx → Elt F .f32} {H : S26x16.Idx → Elt F .f32} {W0 W1 : S130.Idx → Elt F .f32} {t : Fin k0_t2_loop.trips}

theorem part1 {c0_i32_3 : BitVec 32} {c1_i32_4 : BitVec 32} {P : (Σ' (v23 : BitVec 32) (v34 : BitVec 32) (v39 : FVec F S16 .f32) (v44 : FVec F S16 .f32), Vec F S1x16 .f32) → St F → Prop}
    (h : ∀ (v23 : BitVec 32) (v34 : BitVec 32), P ⟨v23, v34, X A t.val 0, X A t.val 1, rowv A t.val 2⟩ (stt A H W0 W1 t.val 0 0)) :
    Runs d L (k0_part1 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 c0_i32_3 c1_i32_4 t) (stt A H W0 W1 t.val 0 0) P := by
  unfold k0_part1
  refine Runs.row 0 (by decide) rfl ?_
  refine Runs.row 1 (by decide) rfl ?_
  refine Runs.row 2 (by decide) rfl ?_
  exact Runs.ret (h _ _)

theorem part2 {v23 : BitVec 32} {v34 : BitVec 32} {P : (Σ' (v49 : FVec F S16 .f32) (v54 : FVec F S16 .f32) (v59 : FVec F S16 .f32) (v64 : FVec F S16 .f32) (v69 : FVec F S16 .f32) (v74 : FVec F S16 .f32) (v79 : FVec F S16 .f32) (v84 : FVec F S16 .f32) (v89 : FVec F S16 .f32) (v94 : FVec F S16 .f32), Vec F S1x16 .f32) → St F → Prop}
    (h : P ⟨X A t.val 2, X A t.val 3, X A t.val 4, X A t.val 5, X A t.val 6, X A t.val 7, X A t.val 8, X A t.val 9, X A t.val 10, X A t.val 11, rowv A t.val 12⟩ (stt A H W0 W1 t.val 0 0)) :
    Runs d L (k0_part2 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (rowv A t.val 2)) (stt A H W0 W1 t.val 0 0) P := by
  unfold k0_part2
  refine Runs.row 3 (by decide) rfl ?_
  refine Runs.row 4 (by decide) rfl ?_
  refine Runs.row 5 (by decide) rfl ?_
  refine Runs.row 6 (by decide) rfl ?_
  refine Runs.row 7 (by decide) rfl ?_
  refine Runs.row 8 (by decide) rfl ?_
  refine Runs.row 9 (by decide) rfl ?_
  refine Runs.row 10 (by decide) rfl ?_
  refine Runs.row 11 (by decide) rfl ?_
  refine Runs.row 12 (by decide) rfl ?_
  exact Runs.ret h

theorem part3 {v23 : BitVec 32} {v34 : BitVec 32} {P : (Σ' (v99 : FVec F S16 .f32) (v104 : FVec F S16 .f32) (v109 : FVec F S16 .f32) (v114 : FVec F S16 .f32) (v119 : FVec F S16 .f32) (v124 : FVec F S16 .f32) (v129 : FVec F S16 .f32) (v134 : FVec F S16 .f32) (v139 : FVec F S16 .f32) (v144 : FVec F S16 .f32), Vec F S1x16 .f32) → St F → Prop}
    (h : P ⟨X A t.val 12, X A t.val 13, X A t.val 14, X A t.val 15, X A t.val 16, X A t.val 17, X A t.val 18, X A t.val 19, X A t.val 20, X A t.val 21, rowv A t.val 22⟩ (stt A H W0 W1 t.val 0 0)) :
    Runs d L (k0_part3 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (rowv A t.val 12)) (stt A H W0 W1 t.val 0 0) P := by
  unfold k0_part3
  refine Runs.row 13 (by decide) rfl ?_
  refine Runs.row 14 (by decide) rfl ?_
  refine Runs.row 15 (by decide) rfl ?_
  refine Runs.row 16 (by decide) rfl ?_
  refine Runs.row 17 (by decide) rfl ?_
  refine Runs.row 18 (by decide) rfl ?_
  refine Runs.row 19 (by decide) rfl ?_
  refine Runs.row 20 (by decide) rfl ?_
  refine Runs.row 21 (by decide) rfl ?_
  refine Runs.row 22 (by decide) rfl ?_
  exact Runs.ret h

theorem part4 {v23 : BitVec 32} {v34 : BitVec 32} {P : (Σ' (v149 : FVec F S16 .f32) (v154 : FVec F S16 .f32) (v159 : FVec F S16 .f32) (v164 : FVec F S16 .f32) (v195 : FVec F S16 .f32), FVec F S16 .f32) → St F → Prop}
    (h : P ⟨X A t.val 22, X A t.val 23, X A t.val 24, X A t.val 25, divf (broadcast S16 (Scalar.ofBits .f32 0x40000000#32)) (addf (exp (mulf (addf (addf (addf (mulf (X A t.val 1) (broadcast S16 (wd W0 5))) (mulf (X A t.val 5) (broadcast S16 (wd W0 25)))) (addf (mulf (X A t.val 7) (broadcast S16 (wd W0 35))) (mulf (X A t.val 11) (broadcast S16 (wd W0 55))))) (mulf (X A t.val 13) (broadcast S16 (wd W0 65)))) (broadcast S16 (Scalar.ofBits .f32 0x40000000#32)))) (broadcast S16 (Scalar.ofBits .f32 0x3F800000#32))), broadcast S16 (Scalar.ofBits .f32 0x3F800000#32)⟩ (stt A H W0 W1 t.val 0 0)) :
    Runs d L (k0_part4 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (X A t.val 1) (X A t.val 5) (X A t.val 7) (X A t.val 11) (X A t.val 13) (rowv A t.val 22)) (stt A H W0 W1 t.val 0 0) P := by
  unfold k0_part4
  refine Runs.row 23 (by decide) rfl ?_
  refine Runs.row 24 (by decide) rfl ?_
  refine Runs.row 25 (by decide) rfl ?_
  refine Runs.w0 5 ?_
  refine Runs.w0 25 ?_
  refine Runs.w0 35 ?_
  refine Runs.w0 55 ?_
  refine Runs.w0 65 ?_
  exact Runs.ret h

theorem part5 {P : (Elt F .f32) → St F → Prop}
    (h : P (wd W0 15) (stt A H W0 W1 t.val 0 2)) :
    Runs d L (k0_part5 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 2) (X A t.val 6) (X A t.val 8) (X A t.val 12) (X A t.val 14) (divf (broadcast S16 (Scalar.ofBits .f32 0x40000000#32)) (addf (exp (mulf (addf (addf (addf (mulf (X A t.val 1) (broadcast S16 (wd W0 5))) (mulf (X A t.val 5) (broadcast S16 (wd W0 25)))) (addf (mulf (X A t.val 7) (broadcast S16 (wd W0 35))) (mulf (X A t.val 11) (broadcast S16 (wd W0 55))))) (mulf (X A t.val 13) (broadcast S16 (wd W0 65)))) (broadcast S16 (Scalar.ofBits .f32 0x40000000#32)))) (broadcast S16 (Scalar.ofBits .f32 0x3F800000#32)))) (broadcast S16 (Scalar.ofBits .f32 0x3F800000#32))) (stt A H W0 W1 t.val 0 0) P := by
  unfold k0_part5
  refine Runs.loadH ?_
  refine Runs.hstore _ rfl ?_
  refine Runs.w0 10 ?_
  refine Runs.w0 30 ?_
  refine Runs.w0 40 ?_
  refine Runs.w0 60 ?_
  refine Runs.w0 70 ?_
  refine Runs.loadH ?_
  refine Runs.hstore _ rfl ?_
  refine Runs.tail ?_
  refine Runs.w0 15 ?_
  exact Runs.ret h

theorem part6 {P : (Σ' (v279 : FVec F S16 .f32) (v283 : FVec F S16 .f32), FVec F S16 .f32) → St F → Prop}
    (h : P ⟨mulf (X A t.val 4) (broadcast S16 (wd W0 20)), mulf (X A t.val 8) (broadcast S16 (wd W0 41)), broadcast S16 (wd W0 50)⟩ (stt A H W0 W1 t.val 0 3)) :
    Runs d L (k0_part6 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 3) (X A t.val 4) (X A t.val 7) (X A t.val 8) (X A t.val 9) (X A t.val 13) (X A t.val 15) (wd W0 15)) (stt A H W0 W1 t.val 0 2) P := by
  unfold k0_part6
  refine Runs.w0 36 ?_
  refine Runs.w0 45 ?_
  refine Runs.w0 66 ?_
  refine Runs.w0 75 ?_
  refine Runs.loadH ?_
  refine Runs.hstore _ rfl ?_
  refine Runs.w0 20 ?_
  refine Runs.w0 41 ?_
  refine Runs.w0 50 ?_
  exact Runs.ret h

theorem part7 {P : (Σ' (v316 : FVec F S16 .f32) (v320 : FVec F S16 .f32) (v324 : FVec F S16 .f32) (v328 : FVec F S16 .f32), FVec F S16 .f32) → St F → Prop}
    (h : P ⟨mulf (X A t.val 5) (broadcast S16 (wd W0 26)), mulf (X A t.val 9) (broadcast S16 (wd W0 46)), mulf (X A t.val 11) (broadcast S16 (wd W0 56)), mulf (X A t.val 15) (broadcast S16 (wd W0 76)), mulf (X A t.val 17) (broadcast S16 (wd W0 85))⟩ (stt A H W0 W1 t.val 0 4)) :
    Runs d L (k0_part7 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 5) (X A t.val 9) (X A t.val 10) (X A t.val 11) (X A t.val 14) (X A t.val 15) (X A t.val 16) (X A t.val 17) (mulf (X A t.val 4) (broadcast S16 (wd W0 20))) (mulf (X A t.val 8) (broadcast S16 (wd W0 41))) (broadcast S16 (wd W0 50))) (stt A H W0 W1 t.val 0 3) P := by
  unfold k0_part7
  refine Runs.w0 71 ?_
  refine Runs.w0 80 ?_
  refine Runs.loadH ?_
  refine Runs.hstore _ rfl ?_
  refine Runs.w0 26 ?_
  refine Runs.w0 46 ?_
  refine Runs.w0 56 ?_
  refine Runs.w0 76 ?_
  refine Runs.w0 85 ?_
  exact Runs.ret h

theorem part8 {P : (FVec F S16 .f32) → St F → Prop}
    (h : P (addf (exp (mulf (addf (addf (addf (mulf (X A t.val 6) (broadcast S16 (wd W0 31))) (mulf (X A t.val 10) (broadcast S16 (wd W0 51)))) (addf (mulf (X A t.val 12) (broadcast S16 (wd W0 61))) (mulf (X A t.val 16) (broadcast S16 (wd W0 81))))) (mulf (X A t.val 18) (broadcast S16 (wd W0 90)))) (broadcast S16 (Scalar.ofBits .f32 0x40000000#32)))) (broadcast S16 (Scalar.ofBits .f32 0x3F800000#32))) (stt A H W0 W1 t.val 0 5)) :
    Runs d L (k0_part8 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 6) (X A t.val 10) (X A t.val 12) (X A t.val 16) (X A t.val 18) (mulf (X A t.val 5) (broadcast S16 (wd W0 26))) (mulf (X A t.val 9) (broadcast S16 (wd W0 46))) (mulf (X A t.val 11) (broadcast S16 (wd W0 56))) (mulf (X A t.val 15) (broadcast S16 (wd W0 76))) (mulf (X A t.val 17) (broadcast S16 (wd W0 85)))) (stt A H W0 W1 t.val 0 4) P := by
  unfold k0_part8
  refine Runs.loadH ?_
  refine Runs.hstore _ rfl ?_
  refine Runs.w0 31 ?_
  refine Runs.w0 51 ?_
  refine Runs.w0 61 ?_
  refine Runs.w0 81 ?_
  refine Runs.w0 90 ?_
  exact Runs.ret h

theorem part9 {P : (FVec F S16 .f32) → St F → Prop}
    (h : P (subf (broadcast S16 (Scalar.ofBits .f32 0x3F800000#32)) (divf (broadcast S16 (Scalar.ofBits .f32 0x40000000#32)) (addf (exp (mulf (addf (addf (addf (mulf (X A t.val 7) (broadcast S16 (wd W0 37))) (mulf (X A t.val 11) (broadcast S16 (wd W0 57)))) (addf (mulf (X A t.val 13) (broadcast S16 (wd W0 67))) (mulf (X A t.val 17) (broadcast S16 (wd W0 86))))) (mulf (X A t.val 19) (broadcast S16 (wd W0 95)))) (broadcast S16 (Scalar.ofBits .f32 0x40000000#32)))) (broadcast S16 (Scalar.ofBits .f32 0x3F800000#32))))) (stt A H W0 W1 t.val 0 6)) :
    Runs d L (k0_part9 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 7) (X A t.val 11) (X A t.val 13) (X A t.val 17) (X A t.val 19) (addf (exp (mulf (addf (addf (addf (mulf (X A t.val 6) (broadcast S16 (wd W0 31))) (mulf (X A t.val 10) (broadcast S16 (wd W0 51)))) (addf (mulf (X A t.val 12) (broadcast S16 (wd W0 61))) (mulf (X A t.val 16) (broadcast S16 (wd W0 81))))) (mulf (X A t.val 18) (broadcast S16 (wd W0 90)))) (broadcast S16 (Scalar.ofBits .f32 0x40000000#32)))) (broadcast S16 (Scalar.ofBits .f32 0x3F800000#32)))) (stt A H W0 W1 t.val 0 5) P := by
  unfold k0_part9
  refine Runs.loadH ?_
  refine Runs.hstore _ rfl ?_
  refine Runs.w0 37 ?_
  refine Runs.w0 57 ?_
  refine Runs.w0 67 ?_
  refine Runs.w0 86 ?_
  refine Runs.w0 95 ?_
  refine Runs.loadH ?_
  exact Runs.ret h

theorem part10 {P : (Σ' (v464 : FVec F S16 .f32), FVec F S16 .f32) → St F → Prop}
    (h : P ⟨mulf (X A t.val 9) (broadcast S16 (wd W0 47)), broadcast S16 (wd W0 68)⟩ (stt A H W0 W1 t.val 0 8)) :
    Runs d L (k0_part10 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 8) (X A t.val 9) (X A t.val 12) (X A t.val 14) (X A t.val 18) (X A t.val 20) (subf (broadcast S16 (Scalar.ofBits .f32 0x3F800000#32)) (divf (broadcast S16 (Scalar.ofBits .f32 0x40000000#32)) (addf (exp (mulf (addf (addf (addf (mulf (X A t.val 7) (broadcast S16 (wd W0 37))) (mulf (X A t.val 11) (broadcast S16 (wd W0 57)))) (addf (mulf (X A t.val 13) (broadcast S16 (wd W0 67))) (mulf (X A t.val 17) (broadcast S16 (wd W0 86))))) (mulf (X A t.val 19) (broadcast S16 (wd W0 95)))) (broadcast S16 (Scalar.ofBits .f32 0x40000000#32)))) (broadcast S16 (Scalar.ofBits .f32 0x3F800000#32)))))) (stt A H W0 W1 t.val 0 6) P := by
  unfold k0_part10
  refine Runs.hstore _ rfl ?_
  refine Runs.w0 42 ?_
  refine Runs.w0 62 ?_
  refine Runs.w0 72 ?_
  refine Runs.w0 91 ?_
  refine Runs.w0 100 ?_
  refine Runs.loadH ?_
  refine Runs.hstore _ rfl ?_
  refine Runs.w0 47 ?_
  refine Runs.w0 68 ?_
  exact Runs.ret h

theorem part11 {P : (Σ' (v501 : FVec F S16 .f32) (v505 : FVec F S16 .f32) (v509 : FVec F S16 .f32), FVec F S16 .f32) → St F → Prop}
    (h : P ⟨mulf (X A t.val 10) (broadcast S16 (wd W0 52)), mulf (X A t.val 14) (broadcast S16 (wd W0 73)), mulf (X A t.val 16) (broadcast S16 (wd W0 82)), mulf (X A t.val 20) (broadcast S16 (wd W0 101))⟩ (stt A H W0 W1 t.val 0 9)) :
    Runs d L (k0_part11 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 10) (X A t.val 13) (X A t.val 14) (X A t.val 15) (X A t.val 16) (X A t.val 19) (X A t.val 20) (X A t.val 21) (mulf (X A t.val 9) (broadcast S16 (wd W0 47))) (broadcast S16 (wd W0 68))) (stt A H W0 W1 t.val 0 8) P := by
  unfold k0_part11
  refine Runs.w0 77 ?_
  refine Runs.w0 96 ?_
  refine Runs.w0 105 ?_
  refine Runs.loadH ?_
  refine Runs.hstore _ rfl ?_
  refine Runs.w0 52 ?_
  refine Runs.w0 73 ?_
  refine Runs.w0 82 ?_
  refine Runs.w0 101 ?_
  exact Runs.ret h

theorem part12 {P : (Σ' (v558 : FVec F S16 .f32), FVec F S16 .f32) → St F → Prop}
    (h : P ⟨addf (addf (addf (mulf (X A t.val 11) (broadcast S16 (wd W0 58))) (mulf (X A t.val 15) (broadcast S16 (wd W0 78)))) (addf (mulf (X A t.val 17) (broadcast S16 (wd W0 87))) (mulf (X A t.val 21) (broadcast S16 (wd W0 106))))) (mulf (X A t.val 23) (broadcast S16 (wd W0 115))), broadcast S16 (Scalar.ofBits .f32 0x40000000#32)⟩ (stt A H W0 W1 t.val 0 10)) :
    Runs d L (k0_part12 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 11) (X A t.val 15) (X A t.val 17) (X A t.val 21) (X A t.val 22) (X A t.val 23) (mulf (X A t.val 10) (broadcast S16 (wd W0 52))) (mulf (X A t.val 14) (broadcast S16 (wd W0 73))) (mulf (X A t.val 16) (broadcast S16 (wd W0 82))) (mulf (X A t.val 20) (broadcast S16 (wd W0 101)))) (stt A H W0 W1 t.val 0 9) P := by
  unfold k0_part12
  refine Runs.w0 110 ?_
  refine Runs.loadH ?_
  refine Runs.hstore _ rfl ?_
  refine Runs.w0 58 ?_
  refine Runs.w0 78 ?_
  refine Runs.w0 87 ?_
  refine Runs.w0 106 ?_
  refine Runs.w0 115 ?_
  exact Runs.ret h

theorem part13 {P : (FVec F S16 .f32) → St F → Prop}
    (h : P (subf (broadcast S16 (Scalar.ofBits .f32 0x3F800000#32)) (divf (broadcast S16 (Scalar.ofBits .f32 0x40000000#32)) (addf (exp (mulf (addf (addf (addf (mulf (X A t.val 12) (broadcast S16 (wd W0 63))) (mulf (X A t.val 16) (broadcast S16 (wd W0 83)))) (addf (mulf (X A t.val 18) (broadcast S16 (wd W0 92))) (mulf (X A t.val 22) (broadcast S16 (wd W0 111))))) (mulf (X A t.val 24) (broadcast S16 (wd W0 120)))) (broadcast S16 (Scalar.ofBits .f32 0x40000000#32)))) (broadcast S16 (Scalar.ofBits .f32 0x3F800000#32))))) (stt A H W0 W1 t.val 0 11)) :
    Runs d L (k0_part13 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 12) (X A t.val 16) (X A t.val 18) (X A t.val 22) (X A t.val 24) (addf (addf (addf (mulf (X A t.val 11) (broadcast S16 (wd W0 58))) (mulf (X A t.val 15) (broadcast S16 (wd W0 78)))) (addf (mulf (X A t.val 17) (broadcast S16 (wd W0 87))) (mulf (X A t.val 21) (broadcast S16 (wd W0 106))))) (mulf (X A t.val 23) (broadcast S16 (wd W0 115)))) (broadcast S16 (Scalar.ofBits .f32 0x40000000#32))) (stt A H W0 W1 t.val 0 10) P := by
  unfold k0_part13
  refine Runs.loadH ?_
  refine Runs.hstore _ rfl ?_
  refine Runs.w0 63 ?_
  refine Runs.w0 83 ?_
  refine Runs.w0 92 ?_
  refine Runs.w0 111 ?_
  refine Runs.w0 120 ?_
  exact Runs.ret h

theorem part14 {P : (FVec F S16 .f32) → St F → Prop}
    (h : P (broadcast S16 (wd W0 74)) (stt A H W0 W1 t.val 0 13)) :
    Runs d L (k0_part14 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 13) (X A t.val 17) (X A t.val 19) (X A t.val 23) (X A t.val 25) (subf (broadcast S16 (Scalar.ofBits .f32 0x3F800000#32)) (divf (broadcast S16 (Scalar.ofBits .f32 0x40000000#32)) (addf (exp (mulf (addf (addf (addf (mulf (X A t.val 12) (broadcast S16 (wd W0 63))) (mulf (X A t.val 16) (broadcast S16 (wd W0 83)))) (addf (mulf (X A t.val 18) (broadcast S16 (wd W0 92))) (mulf (X A t.val 22) (broadcast S16 (wd W0 111))))) (mulf (X A t.val 24) (broadcast S16 (wd W0 120)))) (broadcast S16 (Scalar.ofBits .f32 0x40000000#32)))) (broadcast S16 (Scalar.ofBits .f32 0x3F800000#32)))))) (stt A H W0 W1 t.val 0 11) P := by
  unfold k0_part14
  refine Runs.loadH ?_
  refine Runs.hstore _ rfl ?_
  refine Runs.w0 69 ?_
  refine Runs.w0 88 ?_
  refine Runs.w0 97 ?_
  refine Runs.w0 116 ?_
  refine Runs.w0 125 ?_
  refine Runs.loadH ?_
  refine Runs.hstore _ rfl ?_
  refine Runs.w0 74 ?_
  exact Runs.ret h

theorem part15 {P : (Σ' (v686 : FVec F S16 .f32) (v690 : FVec F S16 .f32), FVec F S16 .f32) → St F → Prop}
    (h : P ⟨mulf (X A t.val 15) (broadcast S16 (wd W0 79)), mulf (X A t.val 19) (broadcast S16 (wd W0 98)), mulf (X A t.val 21) (broadcast S16 (wd W0 107))⟩ (stt A H W0 W1 t.val 0 14)) :
    Runs d L (k0_part15 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 0) (X A t.val 14) (X A t.val 15) (X A t.val 18) (X A t.val 19) (X A t.val 20) (X A t.val 21) (X A t.val 24) (broadcast S16 (wd W0 74))) (stt A H W0 W1 t.val 0 13) P := by
  unfold k0_part15
  refine Runs.w0 93 ?_
  refine Runs.w0 102 ?_
  refine Runs.w0 121 ?_
  refine Runs.w0 0 ?_
  refine Runs.loadH ?_
  refine Runs.hstore _ rfl ?_
  refine Runs.w0 79 ?_
  refine Runs.w0 98 ?_
  refine Runs.w0 107 ?_
  exact Runs.ret h

theorem part16 {P : (Σ' (v731 : FVec F S16 .f32) (v735 : FVec F S16 .f32) (v739 : FVec F S16 .f32), FVec F S16 .f32) → St F → Prop}
    (h : P ⟨mulf (X A t.val 22) (broadcast S16 (wd W0 112)), mulf (X A t.val 0) (broadcast S16 (wd W0 1)), mulf (X A t.val 2) (broadcast S16 (wd W0 11)), addf (mulf (X A t.val 16) (broadcast S16 (wd W0 84))) (mulf (X A t.val 20) (broadcast S16 (wd W0 103)))⟩ (stt A H W0 W1 t.val 0 15)) :
    Runs d L (k0_part16 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 0) (X A t.val 1) (X A t.val 2) (X A t.val 16) (X A t.val 20) (X A t.val 22) (X A t.val 25) (mulf (X A t.val 15) (broadcast S16 (wd W0 79))) (mulf (X A t.val 19) (broadcast S16 (wd W0 98))) (mulf (X A t.val 21) (broadcast S16 (wd W0 107)))) (stt A H W0 W1 t.val 0 14) P := by
  unfold k0_part16
  refine Runs.w0 126 ?_
  refine Runs.w0 6 ?_
  refine Runs.loadH ?_
  refine Runs.hstore _ rfl ?_
  refine Runs.w0 84 ?_
  refine Runs.w0 103 ?_
  refine Runs.w0 112 ?_
  refine Runs.w0 1 ?_
  refine Runs.w0 11 ?_
  exact Runs.ret h

theorem part17 {P : (Σ' (v785 : FVec F S16 .f32), F .f32) → St F → Prop}
    (h : P ⟨addf (exp (mulf (addf (addf (addf (mulf (X A t.val 17) (broadcast S16 (wd W0 89))) (mulf (X A t.val 21) (broadcast S16 (wd W0 108)))) (addf (mulf (X A t.val 23) (broadcast S16 (wd W0 117))) (mulf (X A t.val 1) (broadcast S16 (wd W0 7))))) (mulf (X A t.val 3) (broadcast S16 (wd W0 16)))) (broadcast S16 (Scalar.ofBits .f32 0x40000000#32)))) (broadcast S16 (Scalar.ofBits .f32 0x3F800000#32)), Scalar.ofBits .f32 0x40000000#32⟩ (stt A H W0 W1 t.val 0 16)) :
    Runs d L (k0_part17 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 1) (X A t.val 3) (X A t.val 17) (X A t.val 21) (X A t.val 23) (mulf (X A t.val 22) (broadcast S16 (wd W0 112))) (mulf (X A t.val 0) (broadcast S16 (wd W0 1))) (mulf (X A t.val 2) (broadcast S16 (wd W0 11))) (addf (mulf (X A t.val 16) (broadcast S16 (wd W0 84))) (mulf (X A t.val 20) (broadcast S16 (wd W0 103))))) (stt A H W0 W1 t.val 0 15) P := by
  unfold k0_part17
  refine Runs.loadH ?_
  refine Runs.hstore _ rfl ?_
  refine Runs.w0 89 ?_
  refine Runs.w0 108 ?_
  refine Runs.w0 117 ?_
  refine Runs.w0 7 ?_
  refine Runs.w0 16 ?_
  exact Runs.ret h

theorem part18 {P : (FVec F S1x16 .f32) → St F → Prop}
    (h : P (shapeCast S1x16 (subf (broadcast S16 (Scalar.ofBits .f32 0x3F800000#32)) (divf (broadcast S16 (Scalar.ofBits .f32 0x40000000#32)) (addf (exp (mulf (addf (addf (addf (mulf (X A t.val 18) (broadcast S16 (wd W0 94))) (mulf (X A t.val 22) (broadcast S16 (wd W0 113)))) (addf (mulf (X A t.val 24) (broadcast S16 (wd W0 122))) (mulf (X A t.val 2) (broadcast S16 (wd W0 12))))) (mulf (X A t.val 4) (broadcast S16 (wd W0 21)))) (broadcast S16 (Scalar.ofBits .f32 0x40000000#32)))) (broadcast S16 (Scalar.ofBits .f32 0x3F800000#32))))) shapeCasts_S16_S1x16) (stt A H W0 W1 t.val 0 17)) :
    Runs d L (k0_part18 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 2) (X A t.val 4) (X A t.val 18) (X A t.val 22) (X A t.val 24) (addf (exp (mulf (addf (addf (addf (mulf (X A t.val 17) (broadcast S16 (wd W0 89))) (mulf (X A t.val 21) (broadcast S16 (wd W0 108)))) (addf (mulf (X A t.val 23) (broadcast S16 (wd W0 117))) (mulf (X A t.val 1) (broadcast S16 (wd W0 7))))) (mulf (X A t.val 3) (broadcast S16 (wd W0 16)))) (broadcast S16 (Scalar.ofBits .f32 0x40000000#32)))) (broadcast S16 (Scalar.ofBits .f32 0x3F800000#32))) (Scalar.ofBits .f32 0x40000000#32)) (stt A H W0 W1 t.val 0 16) P := by
  unfold k0_part18
  refine Runs.loadH ?_
  refine Runs.hstore _ rfl ?_
  refine Runs.w0 94 ?_
  refine Runs.w0 113 ?_
  refine Runs.w0 122 ?_
  refine Runs.w0 12 ?_
  refine Runs.w0 21 ?_
  refine Runs.loadH ?_
  exact Runs.ret h

theorem part19 {P : (Σ' (v871 : FVec F S16 .f32), FVec F S16 .f32) → St F → Prop}
    (h : P ⟨mulf (X A t.val 20) (broadcast S16 (wd W0 104)), mulf (X A t.val 24) (broadcast S16 (wd W0 123))⟩ (stt A H W0 W1 t.val 0 19)) :
    Runs d L (k0_part19 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 3) (X A t.val 5) (X A t.val 19) (X A t.val 20) (X A t.val 23) (X A t.val 24) (X A t.val 25) (shapeCast S1x16 (subf (broadcast S16 (Scalar.ofBits .f32 0x3F800000#32)) (divf (broadcast S16 (Scalar.ofBits .f32 0x40000000#32)) (addf (exp (mulf (addf (addf (addf (mulf (X A t.val 18) (broadcast S16 (wd W0 94))) (mulf (X A t.val 22) (broadcast S16 (wd W0 113)))) (addf (mulf (X A t.val 24) (broadcast S16 (wd W0 122))) (mulf (X A t.val 2) (broadcast S16 (wd W0 12))))) (mulf (X A t.val 4) (broadcast S16 (wd W0 21)))) (broadcast S16 (Scalar.ofBits .f32 0x40000000#32)))) (broadcast S16 (Scalar.ofBits .f32 0x3F800000#32))))) shapeCasts_S16_S1x16)) (stt A H W0 W1 t.val 0 17) P := by
  unfold k0_part19
  refine Runs.hstore _ rfl ?_
  refine Runs.w0 99 ?_
  refine Runs.w0 118 ?_
  refine Runs.w0 127 ?_
  refine Runs.w0 17 ?_
  refine Runs.w0 27 ?_
  refine Runs.loadH ?_
  refine Runs.hstore _ rfl ?_
  refine Runs.w0 104 ?_
  refine Runs.w0 123 ?_
  exact Runs.ret h

theorem part20 {P : (Σ' (v908 : FVec F S16 .f32) (v912 : FVec F S16 .f32) (v916 : FVec F S16 .f32) (v920 : FVec F S16 .f32), BitVec 32) → St F → Prop}
    (h : ∀ (c38_i32 : BitVec 32), P ⟨mulf (X A t.val 21) (broadcast S16 (wd W0 109)), mulf (X A t.val 25) (broadcast S16 (wd W0 128)), mulf (X A t.val 1) (broadcast S16 (wd W0 8)), mulf (X A t.val 5) (broadcast S16 (wd W0 28)), c38_i32⟩ (stt A H W0 W1 t.val 0 20)) :
    Runs d L (k0_part20 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 0) (X A t.val 1) (X A t.val 4) (X A t.val 5) (X A t.val 6) (X A t.val 21) (X A t.val 25) (mulf (X A t.val 20) (broadcast S16 (wd W0 104))) (mulf (X A t.val 24) (broadcast S16 (wd W0 123)))) (stt A H W0 W1 t.val 0 19) P := by
  unfold k0_part20
  refine Runs.w0 2 ?_
  refine Runs.w0 22 ?_
  refine Runs.w0 32 ?_
  refine Runs.loadH ?_
  refine Runs.hstore _ rfl ?_
  refine Runs.w0 109 ?_
  refine Runs.w0 128 ?_
  refine Runs.w0 8 ?_
  refine Runs.w0 28 ?_
  exact Runs.ret (h _)

theorem part21 {c38_i32 : BitVec 32} {P : (FVec F S16 .f32) → St F → Prop}
    (h : P (mulf (addf (addf (addf (mulf (X A t.val 22) (broadcast S16 (wd W0 114))) (mulf (X A t.val 0) (broadcast S16 (wd W0 3)))) (addf (mulf (X A t.val 2) (broadcast S16 (wd W0 13))) (mulf (X A t.val 6) (broadcast S16 (wd W0 33))))) (mulf (X A t.val 8) (broadcast S16 (wd W0 43)))) (broadcast S16 (Scalar.ofBits .f32 0x40000000#32))) (stt A H W0 W1 t.val 0 21)) :
    Runs d L (k0_part21 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 0) (X A t.val 2) (X A t.val 6) (X A t.val 7) (X A t.val 8) (X A t.val 22) (mulf (X A t.val 21) (broadcast S16 (wd W0 109))) (mulf (X A t.val 25) (broadcast S16 (wd W0 128))) (mulf (X A t.val 1) (broadcast S16 (wd W0 8))) (mulf (X A t.val 5) (broadcast S16 (wd W0 28))) c38_i32) (stt A H W0 W1 t.val 0 20) P := by
  unfold k0_part21
  refine Runs.w0 38 ?_
  refine Runs.loadH ?_
  refine Runs.hstore _ rfl ?_
  refine Runs.w0 114 ?_
  refine Runs.w0 3 ?_
  refine Runs.w0 13 ?_
  refine Runs.w0 33 ?_
  refine Runs.w0 43 ?_
  exact Runs.ret h

theorem part22 {P : (Σ' (v1011 : FVec F S16 .f32), BitVec 32) → St F → Prop}
    (h : ∀ (c22_i32_162 : BitVec 32), P ⟨subf (broadcast S16 (Scalar.ofBits .f32 0x3F800000#32)) (divf (broadcast S16 (Scalar.ofBits .f32 0x40000000#32)) (addf (exp (mulf (addf (addf (addf (mulf (X A t.val 23) (broadcast S16 (wd W0 119))) (mulf (X A t.val 1) (broadcast S16 (wd W0 9)))) (addf (mulf (X A t.val 3) (broadcast S16 (wd W0 18))) (mulf (X A t.val 7) (broadcast S16 (wd W0 39))))) (mulf (X A t.val 9) (broadcast S16 (wd W0 48)))) (broadcast S16 (Scalar.ofBits .f32 0x40000000#32)))) (broadcast S16 (Scalar.ofBits .f32 0x3F800000#32)))), c22_i32_162⟩ (stt A H W0 W1 t.val 0 22)) :
    Runs d L (k0_part22 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 1) (X A t.val 3) (X A t.val 7) (X A t.val 9) (X A t.val 23) (mulf (addf (addf (addf (mulf (X A t.val 22) (broadcast S16 (wd W0 114))) (mulf (X A t.val 0) (broadcast S16 (wd W0 3)))) (addf (mulf (X A t.val 2) (broadcast S16 (wd W0 13))) (mulf (X A t.val 6) (broadcast S16 (wd W0 33))))) (mulf (X A t.val 8) (broadcast S16 (wd W0 43)))) (broadcast S16 (Scalar.ofBits .f32 0x40000000#32)))) (stt A H W0 W1 t.val 0 21) P := by
  unfold k0_part22
  refine Runs.loadH ?_
  refine Runs.hstore _ rfl ?_
  refine Runs.w0 119 ?_
  refine Runs.w0 9 ?_
  refine Runs.w0 18 ?_
  refine Runs.w0 39 ?_
  refine Runs.w0 48 ?_
  exact Runs.ret (h _)

theorem part23 {c22_i32_162 : BitVec 32} {P : (FVec F S16 .f32) → St F → Prop}
    (h : P (mulf (X A t.val 25) (broadcast S16 (wd W0 129))) (stt A H W0 W1 t.val 0 24)) :
    Runs d L (k0_part23 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 2) (X A t.val 4) (X A t.val 8) (X A t.val 10) (X A t.val 24) (X A t.val 25) (subf (broadcast S16 (Scalar.ofBits .f32 0x3F800000#32)) (divf (broadcast S16 (Scalar.ofBits .f32 0x40000000#32)) (addf (exp (mulf (addf (addf (addf (mulf (X A t.val 23) (broadcast S16 (wd W0 119))) (mulf (X A t.val 1) (broadcast S16 (wd W0 9)))) (addf (mulf (X A t.val 3) (broadcast S16 (wd W0 18))) (mulf (X A t.val 7) (broadcast S16 (wd W0 39))))) (mulf (X A t.val 9) (broadcast S16 (wd W0 48)))) (broadcast S16 (Scalar.ofBits .f32 0x40000000#32)))) (broadcast S16 (Scalar.ofBits .f32 0x3F800000#32))))) c22_i32_162) (stt A H W0 W1 t.val 0 22) P := by
  unfold k0_part23
  refine Runs.loadH ?_
  refine Runs.hstore _ rfl ?_
  refine Runs.w0 124 ?_
  refine Runs.w0 14 ?_
  refine Runs.w0 23 ?_
  refine Runs.w0 44 ?_
  refine Runs.w0 53 ?_
  refine Runs.loadH ?_
  refine Runs.hstore _ rfl ?_
  refine Runs.w0 129 ?_
  exact Runs.ret h

theorem part24 {P : (Σ' (v1093 : FVec F S16 .f32) (v1097 : FVec F S16 .f32) (v1101 : FVec F S16 .f32), BitVec 32) → St F → Prop}
    (h : ∀ (c54_i32 : BitVec 32), P ⟨mulf (X A t.val 0) (broadcast S16 (wd W0 4)), mulf (X A t.val 4) (broadcast S16 (wd W0 24)), mulf (X A t.val 6) (broadcast S16 (wd W0 34)), c54_i32⟩ (stt A H W0 W1 t.val 0 25)) :
    Runs d L (k0_part24 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 0) (X A t.val 3) (X A t.val 4) (X A t.val 5) (X A t.val 6) (X A t.val 9) (X A t.val 11) (mulf (X A t.val 25) (broadcast S16 (wd W0 129)))) (stt A H W0 W1 t.val 0 24) P := by
  unfold k0_part24
  refine Runs.w0 19 ?_
  refine Runs.w0 29 ?_
  refine Runs.w0 49 ?_
  refine Runs.w0 59 ?_
  refine Runs.loadH ?_
  refine Runs.hstore _ rfl ?_
  refine Runs.w0 4 ?_
  refine Runs.w0 24 ?_
  refine Runs.w0 34 ?_
  exact Runs.ret (h _)

theorem part25 {c54_i32 : BitVec 32} {P : (Σ' (v1129 : FVec F S16 .f32) (v1132 : FVec F S16 .f32) (v1135 : FVec F S16 .f32) (v1138 : FVec F S16 .f32), FVec F S16 .f32) → St F → Prop}
    (h : P ⟨back (Y1 A W0 t.val) 0, back (Y1 A W0 t.val) 1, back (Y1 A W0 t.val) 2, back (Y1 A W0 t.val) 3, back (Y1 A W0 t.val) 4⟩ (stt A H W0 W1 t.val 0 26)) :
    Runs d L (k0_part25 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (X A t.val 10) (X A t.val 12) (mulf (X A t.val 0) (broadcast S16 (wd W0 4))) (mulf (X A t.val 4) (broadcast S16 (wd W0 24))) (mulf (X A t.val 6) (broadcast S16 (wd W0 34))) c54_i32) (stt A H W0 W1 t.val 0 25) P := by
  unfold k0_part25
  refine Runs.w0 54 ?_
  refine Runs.w0 64 ?_
  refine Runs.loadH ?_
  refine Runs.hstore _ rfl ?_
  refine Runs.hload 0 (by decide) ?_
  refine Runs.hload 1 (by decide) ?_
  refine Runs.hload 2 (by decide) ?_
  refine Runs.hload 3 (by decide) ?_
  refine Runs.hload 4 (by decide) ?_
  exact Runs.ret h

theorem part26 {P : (Σ' (v1144 : FVec F S16 .f32) (v1147 : FVec F S16 .f32) (v1150 : FVec F S16 .f32) (v1153 : FVec F S16 .f32) (v1156 : FVec F S16 .f32) (v1159 : FVec F S16 .f32) (v1162 : FVec F S16 .f32) (v1165 : FVec F S16 .f32) (v1168 : FVec F S16 .f32) (v1171 : FVec F S16 .f32) (v1174 : FVec F S16 .f32), FVec F S16 .f32) → St F → Prop}
    (h : P ⟨back (Y1 A W0 t.val) 5, back (Y1 A W0 t.val) 6, back (Y1 A W0 t.val) 7, back (Y1 A W0 t.val) 8, back (Y1 A W0 t.val) 9, back (Y1 A W0 t.val) 10, back (Y1 A W0 t.val) 11, back (Y1 A W0 t.val) 12, back (Y1 A W0 t.val) 13, back (Y1 A W0 t.val) 14, back (Y1 A W0 t.val) 15, back (Y1 A W0 t.val) 16⟩ (stt A H W0 W1 t.val 0 26)) :
    Runs d L (k0_part26 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 ) (stt A H W0 W1 t.val 0 26) P := by
  unfold k0_part26
  refine Runs.hload 5 (by decide) ?_
  refine Runs.hload 6 (by decide) ?_
  refine Runs.hload 7 (by decide) ?_
  refine Runs.hload 8 (by decide) ?_
  refine Runs.hload 9 (by decide) ?_
  refine Runs.hload 10 (by decide) ?_
  refine Runs.hload 11 (by decide) ?_
  refine Runs.hload 12 (by decide) ?_
  refine Runs.hload 13 (by decide) ?_
  refine Runs.hload 14 (by decide) ?_
  refine Runs.hload 15 (by decide) ?_
  refine Runs.hload 16 (by decide) ?_
  exact Runs.ret h

theorem part27 {P : (Σ' (v1180 : FVec F S16 .f32) (v1183 : FVec F S16 .f32) (v1186 : FVec F S16 .f32) (v1189 : FVec F S16 .f32) (v1192 : FVec F S16 .f32) (v1195 : FVec F S16 .f32) (v1198 : FVec F S16 .f32) (v1201 : FVec F S16 .f32) (v1204 : FVec F S16 .f32) (v1208 : FVec F S16 .f32) (v1212 : FVec F S16 .f32), FVec F S16 .f32) → St F → Prop}
    (h : P ⟨back (Y1 A W0 t.val) 17, back (Y1 A W0 t.val) 18, back (Y1 A W0 t.val) 19, back (Y1 A W0 t.val) 20, back (Y1 A W0 t.val) 21, back (Y1 A W0 t.val) 22, back (Y1 A W0 t.val) 23, back (Y1 A W0 t.val) 24, back (Y1 A W0 t.val) 25, mulf (back (Y1 A W0 t.val) 1) (broadcast S16 (wd W1 5)), mulf (back (Y1 A W0 t.val) 5) (broadcast S16 (wd W1 25)), mulf (back (Y1 A W0 t.val) 7) (broadcast S16 (wd W1 35))⟩ (stt A H W0 W1 t.val 0 26)) :
    Runs d L (k0_part27 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 (back (Y1 A W0 t.val) 1) (back (Y1 A W0 t.val) 5) (back (Y1 A W0 t.val) 7)) (stt A H W0 W1 t.val 0 26) P := by
  unfold k0_part27
  refine Runs.hload 17 (by decide) ?_
  refine Runs.hload 18 (by decide) ?_
  refine Runs.hload 19 (by decide) ?_
  refine Runs.hload 20 (by decide) ?_
  refine Runs.hload 21 (by decide) ?_
  refine Runs.hload 22 (by decide) ?_
  refine Runs.hload 23 (by decide) ?_
  refine Runs.hload 24 (by decide) ?_
  refine Runs.hload 25 (by decide) ?_
  refine Runs.w1 5 ?_
  refine Runs.w1 25 ?_
  refine Runs.w1 35 ?_
  exact Runs.ret h

theorem part28 {v23 : BitVec 32} {v34 : BitVec 32} {P : (Σ' (v1263 : FVec F S16 .f32) (v1264 : FVec F S16 .f32), FVec F S16 .f32) → St F → Prop}
    (h : P ⟨mulf (back (Y1 A W0 t.val) 14) (broadcast S16 (wd W1 70)), addf (mulf (back (Y1 A W0 t.val) 2) (broadcast S16 (wd W1 10))) (mulf (back (Y1 A W0 t.val) 6) (broadcast S16 (wd W1 30))), addf (mulf (back (Y1 A W0 t.val) 8) (broadcast S16 (wd W1 40))) (mulf (back (Y1 A W0 t.val) 12) (broadcast S16 (wd W1 60)))⟩ (stt A H W0 W1 t.val 1 26)) :
    Runs d L (k0_part28 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 2) (back (Y1 A W0 t.val) 6) (back (Y1 A W0 t.val) 8) (back (Y1 A W0 t.val) 11) (back (Y1 A W0 t.val) 12) (back (Y1 A W0 t.val) 13) (back (Y1 A W0 t.val) 14) (mulf (back (Y1 A W0 t.val) 1) (broadcast S16 (wd W1 5))) (mulf (back (Y1 A W0 t.val) 5) (broadcast S16 (wd W1 25))) (mulf (back (Y1 A W0 t.val) 7) (broadcast S16 (wd W1 35)))) (stt A H W0 W1 t.val 0 26) P := by
  unfold k0_part28
  refine Runs.w1 55 ?_
  refine Runs.w1 65 ?_
  refine Runs.loadB ?_
  refine Runs.bstore (n := 0) rfl (by decide) _ (by unfold Y2 lay lin term edge; rfl) ?_
  refine Runs.w1 10 ?_
  refine Runs.w1 30 ?_
  refine Runs.w1 40 ?_
  refine Runs.w1 60 ?_
  refine Runs.w1 70 ?_
  exact Runs.ret h

theorem part29 {v23 : BitVec 32} {v34 : BitVec 32} {P : (Σ' (v1311 : FVec F S16 .f32), F .f32) → St F → Prop}
    (h : P ⟨addf (exp (mulf (addf (addf (addf (mulf (back (Y1 A W0 t.val) 3) (broadcast S16 (wd W1 15))) (mulf (back (Y1 A W0 t.val) 7) (broadcast S16 (wd W1 36)))) (addf (mulf (back (Y1 A W0 t.val) 9) (broadcast S16 (wd W1 45))) (mulf (back (Y1 A W0 t.val) 13) (broadcast S16 (wd W1 66))))) (mulf (back (Y1 A W0 t.val) 15) (broadcast S16 (wd W1 75)))) (broadcast S16 (Scalar.ofBits .f32 0x40000000#32)))) (broadcast S16 (Scalar.ofBits .f32 0x3F800000#32)), Scalar.ofBits .f32 0x40000000#32⟩ (stt A H W0 W1 t.val 2 26)) :
    Runs d L (k0_part29 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 3) (back (Y1 A W0 t.val) 7) (back (Y1 A W0 t.val) 9) (back (Y1 A W0 t.val) 13) (back (Y1 A W0 t.val) 15) (mulf (back (Y1 A W0 t.val) 14) (broadcast S16 (wd W1 70))) (addf (mulf (back (Y1 A W0 t.val) 2) (broadcast S16 (wd W1 10))) (mulf (back (Y1 A W0 t.val) 6) (broadcast S16 (wd W1 30)))) (addf (mulf (back (Y1 A W0 t.val) 8) (broadcast S16 (wd W1 40))) (mulf (back (Y1 A W0 t.val) 12) (broadcast S16 (wd W1 60))))) (stt A H W0 W1 t.val 1 26) P := by
  unfold k0_part29
  refine Runs.loadB ?_
  refine Runs.bstore (n := 1) rfl (by decide) _ (by unfold Y2 lay lin term edge; rfl) ?_
  refine Runs.w1 15 ?_
  refine Runs.w1 36 ?_
  refine Runs.w1 45 ?_
  refine Runs.w1 66 ?_
  refine Runs.w1 75 ?_
  exact Runs.ret h

theorem part30 {v23 : BitVec 32} {v34 : BitVec 32} {P : (Σ' (v1354 : FVec F S16 .f32), Vec F S1x16 .f32) → St F → Prop}
    (h : ∀ (v1358 : Vec F S1x16 .f32), P ⟨subf (broadcast S16 (Scalar.ofBits .f32 0x3F800000#32)) (divf (broadcast S16 (Scalar.ofBits .f32 0x40000000#32)) (addf (exp (mulf (addf (addf (addf (mulf (back (Y1 A W0 t.val) 4) (broadcast S16 (wd W1 20))) (mulf (back (Y1 A W0 t.val) 8) (broadcast S16 (wd W1 41)))) (addf (mulf (back (Y1 A W0 t.val) 10) (broadcast S16 (wd W1 50))) (mulf (back (Y1 A W0 t.val) 14) (broadcast S16 (wd W1 71))))) (mulf (back (Y1 A W0 t.val) 16) (broadcast S16 (wd W1 80)))) (broadcast S16 (Scalar.ofBits .f32 0x40000000#32)))) (broadcast S16 (Scalar.ofBits .f32 0x3F800000#32)))), v1358⟩ (stt A H W0 W1 t.val 3 26)) :
    Runs d L (k0_part30 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 4) (back (Y1 A W0 t.val) 8) (back (Y1 A W0 t.val) 10) (back (Y1 A W0 t.val) 14) (back (Y1 A W0 t.val) 16) (addf (exp (mulf (addf (addf (addf (mulf (back (Y1 A W0 t.val) 3) (broadcast S16 (wd W1 15))) (mulf (back (Y1 A W0 t.val) 7) (broadcast S16 (wd W1 36)))) (addf (mulf (back (Y1 A W0 t.val) 9) (broadcast S16 (wd W1 45))) (mulf (back (Y1 A W0 t.val) 13) (broadcast S16 (wd W1 66))))) (mulf (back (Y1 A W0 t.val) 15) (broadcast S16 (wd W1 75)))) (broadcast S16 (Scalar.ofBits .f32 0x40000000#32)))) (broadcast S16 (Scalar.ofBits .f32 0x3F800000#32))) (Scalar.ofBits .f32 0x40000000#32)) (stt A H W0 W1 t.val 2 26) P := by
  unfold k0_part30
  refine Runs.loadB ?_
  refine Runs.bstore (n := 2) rfl (by decide) _ (by unfold Y2 lay lin term edge; rfl) ?_
  refine Runs.w1 20 ?_
  refine Runs.w1 41 ?_
  refine Runs.w1 50 ?_
  refine Runs.w1 71 ?_
  refine Runs.w1 80 ?_
  refine Runs.loadB ?_
  exact Runs.ret (h _)

theorem part31 {v23 : BitVec 32} {v34 : BitVec 32} {v1358 : Vec F S1x16 .f32} {P : (FVec F S16 .f32) → St F → Prop}
    (h : P (mulf (back (Y1 A W0 t.val) 6) (broadcast S16 (wd W1 31))) (stt A H W0 W1 t.val 5 26)) :
    Runs d L (k0_part31 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 5) (back (Y1 A W0 t.val) 6) (back (Y1 A W0 t.val) 9) (back (Y1 A W0 t.val) 11) (back (Y1 A W0 t.val) 15) (back (Y1 A W0 t.val) 17) (subf (broadcast S16 (Scalar.ofBits .f32 0x3F800000#32)) (divf (broadcast S16 (Scalar.ofBits .f32 0x40000000#32)) (addf (exp (mulf (addf (addf (addf (mulf (back (Y1 A W0 t.val) 4) (broadcast S16 (wd W1 20))) (mulf (back (Y1 A W0 t.val) 8) (broadcast S16 (wd W1 41)))) (addf (mulf (back (Y1 A W0 t.val) 10) (broadcast S16 (wd W1 50))) (mulf (back (Y1 A W0 t.val) 14) (broadcast S16 (wd W1 71))))) (mulf (back (Y1 A W0 t.val) 16) (broadcast S16 (wd W1 80)))) (broadcast S16 (Scalar.ofBits .f32 0x40000000#32)))) (broadcast S16 (Scalar.ofBits .f32 0x3F800000#32))))) v1358) (stt A H W0 W1 t.val 3 26) P := by
  unfold k0_part31
  refine Runs.bstore (n := 3) rfl (by decide) _ (by unfold Y2 lay lin term edge; rfl) ?_
  refine Runs.w1 26 ?_
  refine Runs.w1 46 ?_
  refine Runs.w1 56 ?_
  refine Runs.w1 76 ?_
  refine Runs.w1 85 ?_
  refine Runs.loadB ?_
  refine Runs.bstore (n := 4) rfl (by decide) _ (by unfold Y2 lay lin term edge; rfl) ?_
  refine Runs.w1 31 ?_
  exact Runs.ret h

theorem part32 {v23 : BitVec 32} {v34 : BitVec 32} {P : (Σ' (v1442 : FVec F S16 .f32) (v1446 : FVec F S16 .f32), FVec F S16 .f32) → St F → Prop}
    (h : P ⟨mulf (back (Y1 A W0 t.val) 7) (broadcast S16 (wd W1 37)), mulf (back (Y1 A W0 t.val) 11) (broadcast S16 (wd W1 57)), mulf (back (Y1 A W0 t.val) 13) (broadcast S16 (wd W1 67))⟩ (stt A H W0 W1 t.val 6 26)) :
    Runs d L (k0_part32 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 7) (back (Y1 A W0 t.val) 10) (back (Y1 A W0 t.val) 11) (back (Y1 A W0 t.val) 12) (back (Y1 A W0 t.val) 13) (back (Y1 A W0 t.val) 16) (back (Y1 A W0 t.val) 18) (mulf (back (Y1 A W0 t.val) 6) (broadcast S16 (wd W1 31)))) (stt A H W0 W1 t.val 5 26) P := by
  unfold k0_part32
  refine Runs.w1 51 ?_
  refine Runs.w1 61 ?_
  refine Runs.w1 81 ?_
  refine Runs.w1 90 ?_
  refine Runs.loadB ?_
  refine Runs.bstore (n := 5) rfl (by decide) _ (by unfold Y2 lay lin term edge; rfl) ?_
  refine Runs.w1 37 ?_
  refine Runs.w1 57 ?_
  refine Runs.w1 67 ?_
  exact Runs.ret h

theorem part33 {v23 : BitVec 32} {v34 : BitVec 32} {P : (Σ' (v1497 : FVec F S16 .f32) (v1498 : FVec F S16 .f32), FVec F S16 .f32) → St F → Prop}
    (h : P ⟨mulf (back (Y1 A W0 t.val) 20) (broadcast S16 (wd W1 100)), addf (mulf (back (Y1 A W0 t.val) 8) (broadcast S16 (wd W1 42))) (mulf (back (Y1 A W0 t.val) 12) (broadcast S16 (wd W1 62))), addf (mulf (back (Y1 A W0 t.val) 14) (broadcast S16 (wd W1 72))) (mulf (back (Y1 A W0 t.val) 18) (broadcast S16 (wd W1 91)))⟩ (stt A H W0 W1 t.val 7 26)) :
    Runs d L (k0_part33 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 8) (back (Y1 A W0 t.val) 12) (back (Y1 A W0 t.val) 14) (back (Y1 A W0 t.val) 17) (back (Y1 A W0 t.val) 18) (back (Y1 A W0 t.val) 19) (back (Y1 A W0 t.val) 20) (mulf (back (Y1 A W0 t.val) 7) (broadcast S16 (wd W1 37))) (mulf (back (Y1 A W0 t.val) 11) (broadcast S16 (wd W1 57))) (mulf (back (Y1 A W0 t.val) 13) (broadcast S16 (wd W1 67)))) (stt A H W0 W1 t.val 6 26) P := by
  unfold k0_part33
  refine Runs.w1 86 ?_
  refine Runs.w1 95 ?_
  refine Runs.loadB ?_
  refine Runs.bstore (n := 6) rfl (by decide) _ (by unfold Y2 lay lin term edge; rfl) ?_
  refine Runs.w1 42 ?_
  refine Runs.w1 62 ?_
  refine Runs.w1 72 ?_
  refine Runs.w1 91 ?_
  refine Runs.w1 100 ?_
  exact Runs.ret h

theorem part34 {v23 : BitVec 32} {v34 : BitVec 32} {P : (Σ' (v1545 : FVec F S16 .f32), F .f32) → St F → Prop}
    (h : P ⟨addf (exp (mulf (addf (addf (addf (mulf (back (Y1 A W0 t.val) 9) (broadcast S16 (wd W1 47))) (mulf (back (Y1 A W0 t.val) 13) (broadcast S16 (wd W1 68)))) (addf (mulf (back (Y1 A W0 t.val) 15) (broadcast S16 (wd W1 77))) (mulf (back (Y1 A W0 t.val) 19) (broadcast S16 (wd W1 96))))) (mulf (back (Y1 A W0 t.val) 21) (broadcast S16 (wd W1 105)))) (broadcast S16 (Scalar.ofBits .f32 0x40000000#32)))) (broadcast S16 (Scalar.ofBits .f32 0x3F800000#32)), Scalar.ofBits .f32 0x40000000#32⟩ (stt A H W0 W1 t.val 8 26)) :
    Runs d L (k0_part34 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 9) (back (Y1 A W0 t.val) 13) (back (Y1 A W0 t.val) 15) (back (Y1 A W0 t.val) 19) (back (Y1 A W0 t.val) 21) (mulf (back (Y1 A W0 t.val) 20) (broadcast S16 (wd W1 100))) (addf (mulf (back (Y1 A W0 t.val) 8) (broadcast S16 (wd W1 42))) (mulf (back (Y1 A W0 t.val) 12) (broadcast S16 (wd W1 62)))) (addf (mulf (back (Y1 A W0 t.val) 14) (broadcast S16 (wd W1 72))) (mulf (back (Y1 A W0 t.val) 18) (broadcast S16 (wd W1 91))))) (stt A H W0 W1 t.val 7 26) P := by
  unfold k0_part34
  refine Runs.loadB ?_
  refine Runs.bstore (n := 7) rfl (by decide) _ (by unfold Y2 lay lin term edge; rfl) ?_
  refine Runs.w1 47 ?_
  refine Runs.w1 68 ?_
  refine Runs.w1 77 ?_
  refine Runs.w1 96 ?_
  refine Runs.w1 105 ?_
  exact Runs.ret h

theorem part35 {v23 : BitVec 32} {v34 : BitVec 32} {P : (Σ' (v1588 : FVec F S16 .f32), Vec F S1x16 .f32) → St F → Prop}
    (h : ∀ (v1592 : Vec F S1x16 .f32), P ⟨subf (broadcast S16 (Scalar.ofBits .f32 0x3F800000#32)) (divf (broadcast S16 (Scalar.ofBits .f32 0x40000000#32)) (addf (exp (mulf (addf (addf (addf (mulf (back (Y1 A W0 t.val) 10) (broadcast S16 (wd W1 52))) (mulf (back (Y1 A W0 t.val) 14) (broadcast S16 (wd W1 73)))) (addf (mulf (back (Y1 A W0 t.val) 16) (broadcast S16 (wd W1 82))) (mulf (back (Y1 A W0 t.val) 20) (broadcast S16 (wd W1 101))))) (mulf (back (Y1 A W0 t.val) 22) (broadcast S16 (wd W1 110)))) (broadcast S16 (Scalar.ofBits .f32 0x40000000#32)))) (broadcast S16 (Scalar.ofBits .f32 0x3F800000#32)))), v1592⟩ (stt A H W0 W1 t.val 9 26)) :
    Runs d L (k0_part35 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 10) (back (Y1 A W0 t.val) 14) (back (Y1 A W0 t.val) 16) (back (Y1 A W0 t.val) 20) (back (Y1 A W0 t.val) 22) (addf (exp (mulf (addf (addf (addf (mulf (back (Y1 A W0 t.val) 9) (broadcast S16 (wd W1 47))) (mulf (back (Y1 A W0 t.val) 13) (broadcast S16 (wd W1 68)))) (addf (mulf (back (Y1 A W0 t.val) 15) (broadcast S16 (wd W1 77))) (mulf (back (Y1 A W0 t.val) 19) (broadcast S16 (wd W1 96))))) (mulf (back (Y1 A W0 t.val) 21) (broadcast S16 (wd W1 105)))) (broadcast S16 (Scalar.ofBits .f32 0x40000000#32)))) (broadcast S16 (Scalar.ofBits .f32 0x3F800000#32))) (Scalar.ofBits .f32 0x40000000#32)) (stt A H W0 W1 t.val 8 26) P := by
  unfold k0_part35
  refine Runs.loadB ?_
  refine Runs.bstore (n := 8) rfl (by decide) _ (by unfold Y2 lay lin term edge; rfl) ?_
  refine Runs.w1 52 ?_
  refine Runs.w1 73 ?_
  refine Runs.w1 82 ?_
  refine Runs.w1 101 ?_
  refine Runs.w1 110 ?_
  refine Runs.loadB ?_
  exact Runs.ret (h _)

theorem part36 {v23 : BitVec 32} {v34 : BitVec 32} {v1592 : Vec F S1x16 .f32} {P : (FVec F S16 .f32) → St F → Prop}
    (h : P (mulf (back (Y1 A W0 t.val) 12) (broadcast S16 (wd W1 63))) (stt A H W0 W1 t.val 11 26)) :
    Runs d L (k0_part36 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 11) (back (Y1 A W0 t.val) 12) (back (Y1 A W0 t.val) 15) (back (Y1 A W0 t.val) 17) (back (Y1 A W0 t.val) 21) (back (Y1 A W0 t.val) 23) (subf (broadcast S16 (Scalar.ofBits .f32 0x3F800000#32)) (divf (broadcast S16 (Scalar.ofBits .f32 0x40000000#32)) (addf (exp (mulf (addf (addf (addf (mulf (back (Y1 A W0 t.val) 10) (broadcast S16 (wd W1 52))) (mulf (back (Y1 A W0 t.val) 14) (broadcast S16 (wd W1 73)))) (addf (mulf (back (Y1 A W0 t.val) 16) (broadcast S16 (wd W1 82))) (mulf (back (Y1 A W0 t.val) 20) (broadcast S16 (wd W1 101))))) (mulf (back (Y1 A W0 t.val) 22) (broadcast S16 (wd W1 110)))) (broadcast S16 (Scalar.ofBits .f32 0x40000000#32)))) (broadcast S16 (Scalar.ofBits .f32 0x3F800000#32))))) v1592) (stt A H W0 W1 t.val 9 26) P := by
  unfold k0_part36
  refine Runs.bstore (n := 9) rfl (by decide) _ (by unfold Y2 lay lin term edge; rfl) ?_
  refine Runs.w1 58 ?_
  refine Runs.w1 78 ?_
  refine Runs.w1 87 ?_
  refine Runs.w1 106 ?_
  refine Runs.w1 115 ?_
  refine Runs.loadB ?_
  refine Runs.bstore (n := 10) rfl (by decide) _ (by unfold Y2 lay lin term edge; rfl) ?_
  refine Runs.w1 63 ?_
  exact Runs.ret h

theorem part37 {v23 : BitVec 32} {v34 : BitVec 32} {P : (Σ' (v1676 : FVec F S16 .f32) (v1680 : FVec F S16 .f32), FVec F S16 .f32) → St F → Prop}
    (h : P ⟨mulf (back (Y1 A W0 t.val) 13) (broadcast S16 (wd W1 69)), mulf (back (Y1 A W0 t.val) 17) (broadcast S16 (wd W1 88)), mulf (back (Y1 A W0 t.val) 19) (broadcast S16 (wd W1 97))⟩ (stt A H W0 W1 t.val 12 26)) :
    Runs d L (k0_part37 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 13) (back (Y1 A W0 t.val) 16) (back (Y1 A W0 t.val) 17) (back (Y1 A W0 t.val) 18) (back (Y1 A W0 t.val) 19) (back (Y1 A W0 t.val) 22) (back (Y1 A W0 t.val) 24) (mulf (back (Y1 A W0 t.val) 12) (broadcast S16 (wd W1 63)))) (stt A H W0 W1 t.val 11 26) P := by
  unfold k0_part37
  refine Runs.w1 83 ?_
  refine Runs.w1 92 ?_
  refine Runs.w1 111 ?_
  refine Runs.w1 120 ?_
  refine Runs.loadB ?_
  refine Runs.bstore (n := 11) rfl (by decide) _ (by unfold Y2 lay lin term edge; rfl) ?_
  refine Runs.w1 69 ?_
  refine Runs.w1 88 ?_
  refine Runs.w1 97 ?_
  exact Runs.ret h

theorem part38 {v23 : BitVec 32} {v34 : BitVec 32} {P : (Σ' (v1731 : FVec F S16 .f32) (v1732 : FVec F S16 .f32), FVec F S16 .f32) → St F → Prop}
    (h : P ⟨mulf (back (Y1 A W0 t.val) 0) (broadcast S16 (wd W1 0)), addf (mulf (back (Y1 A W0 t.val) 14) (broadcast S16 (wd W1 74))) (mulf (back (Y1 A W0 t.val) 18) (broadcast S16 (wd W1 93))), addf (mulf (back (Y1 A W0 t.val) 20) (broadcast S16 (wd W1 102))) (mulf (back (Y1 A W0 t.val) 24) (broadcast S16 (wd W1 121)))⟩ (stt A H W0 W1 t.val 13 26)) :
    Runs d L (k0_part38 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 0) (back (Y1 A W0 t.val) 14) (back (Y1 A W0 t.val) 18) (back (Y1 A W0 t.val) 20) (back (Y1 A W0 t.val) 23) (back (Y1 A W0 t.val) 24) (back (Y1 A W0 t.val) 25) (mulf (back (Y1 A W0 t.val) 13) (broadcast S16 (wd W1 69))) (mulf (back (Y1 A W0 t.val) 17) (broadcast S16 (wd W1 88))) (mulf (back (Y1 A W0 t.val) 19) (broadcast S16 (wd W1 97)))) (stt A H W0 W1 t.val 12 26) P := by
  unfold k0_part38
  refine Runs.w1 116 ?_
  refine Runs.w1 125 ?_
  refine Runs.loadB ?_
  refine Runs.bstore (n := 12) rfl (by decide) _ (by unfold Y2 lay lin term edge; rfl) ?_
  refine Runs.w1 74 ?_
  refine Runs.w1 93 ?_
  refine Runs.w1 102 ?_
  refine Runs.w1 121 ?_
  refine Runs.w1 0 ?_
  exact Runs.ret h

theorem part39 {v23 : BitVec 32} {v34 : BitVec 32} {P : (Σ' (v1779 : FVec F S16 .f32), F .f32) → St F → Prop}
    (h : P ⟨addf (exp (mulf (addf (addf (addf (mulf (back (Y1 A W0 t.val) 15) (broadcast S16 (wd W1 79))) (mulf (back (Y1 A W0 t.val) 19) (broadcast S16 (wd W1 98)))) (addf (mulf (back (Y1 A W0 t.val) 21) (broadcast S16 (wd W1 107))) (mulf (back (Y1 A W0 t.val) 25) (broadcast S16 (wd W1 126))))) (mulf (back (Y1 A W0 t.val) 1) (broadcast S16 (wd W1 6)))) (broadcast S16 (Scalar.ofBits .f32 0x40000000#32)))) (broadcast S16 (Scalar.ofBits .f32 0x3F800000#32)), Scalar.ofBits .f32 0x40000000#32⟩ (stt A H W0 W1 t.val 14 26)) :
    Runs d L (k0_part39 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 1) (back (Y1 A W0 t.val) 15) (back (Y1 A W0 t.val) 19) (back (Y1 A W0 t.val) 21) (back (Y1 A W0 t.val) 25) (mulf (back (Y1 A W0 t.val) 0) (broadcast S16 (wd W1 0))) (addf (mulf (back (Y1 A W0 t.val) 14) (broadcast S16 (wd W1 74))) (mulf (back (Y1 A W0 t.val) 18) (broadcast S16 (wd W1 93)))) (addf (mulf (back (Y1 A W0 t.val) 20) (broadcast S16 (wd W1 102))) (mulf (back (Y1 A W0 t.val) 24) (broadcast S16 (wd W1 121))))) (stt A H W0 W1 t.val 13 26) P := by
  unfold k0_part39
  refine Runs.loadB ?_
  refine Runs.bstore (n := 13) rfl (by decide) _ (by unfold Y2 lay lin term edge; rfl) ?_
  refine Runs.w1 79 ?_
  refine Runs.w1 98 ?_
  refine Runs.w1 107 ?_
  refine Runs.w1 126 ?_
  refine Runs.w1 6 ?_
  exact Runs.ret h

theorem part40 {v23 : BitVec 32} {v34 : BitVec 32} {P : (Σ' (v1822 : FVec F S16 .f32), Vec F S1x16 .f32) → St F → Prop}
    (h : ∀ (v1826 : Vec F S1x16 .f32), P ⟨subf (broadcast S16 (Scalar.ofBits .f32 0x3F800000#32)) (divf (broadcast S16 (Scalar.ofBits .f32 0x40000000#32)) (addf (exp (mulf (addf (addf (addf (mulf (back (Y1 A W0 t.val) 16) (broadcast S16 (wd W1 84))) (mulf (back (Y1 A W0 t.val) 20) (broadcast S16 (wd W1 103)))) (addf (mulf (back (Y1 A W0 t.val) 22) (broadcast S16 (wd W1 112))) (mulf (back (Y1 A W0 t.val) 0) (broadcast S16 (wd W1 1))))) (mulf (back (Y1 A W0 t.val) 2) (broadcast S16 (wd W1 11)))) (broadcast S16 (Scalar.ofBits .f32 0x40000000#32)))) (broadcast S16 (Scalar.ofBits .f32 0x3F800000#32)))), v1826⟩ (stt A H W0 W1 t.val 15 26)) :
    Runs d L (k0_part40 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 0) (back (Y1 A W0 t.val) 2) (back (Y1 A W0 t.val) 16) (back (Y1 A W0 t.val) 20) (back (Y1 A W0 t.val) 22) (addf (exp (mulf (addf (addf (addf (mulf (back (Y1 A W0 t.val) 15) (broadcast S16 (wd W1 79))) (mulf (back (Y1 A W0 t.val) 19) (broadcast S16 (wd W1 98)))) (addf (mulf (back (Y1 A W0 t.val) 21) (broadcast S16 (wd W1 107))) (mulf (back (Y1 A W0 t.val) 25) (broadcast S16 (wd W1 126))))) (mulf (back (Y1 A W0 t.val) 1) (broadcast S16 (wd W1 6)))) (broadcast S16 (Scalar.ofBits .f32 0x40000000#32)))) (broadcast S16 (Scalar.ofBits .f32 0x3F800000#32))) (Scalar.ofBits .f32 0x40000000#32)) (stt A H W0 W1 t.val 14 26) P := by
  unfold k0_part40
  refine Runs.loadB ?_
  refine Runs.bstore (n := 14) rfl (by decide) _ (by unfold Y2 lay lin term edge; rfl) ?_
  refine Runs.w1 84 ?_
  refine Runs.w1 103 ?_
  refine Runs.w1 112 ?_
  refine Runs.w1 1 ?_
  refine Runs.w1 11 ?_
  refine Runs.loadB ?_
  exact Runs.ret (h _)

theorem part41 {v23 : BitVec 32} {v34 : BitVec 32} {v1826 : Vec F S1x16 .f32} {P : (FVec F S16 .f32) → St F → Prop}
    (h : P (mulf (back (Y1 A W0 t.val) 18) (broadcast S16 (wd W1 94))) (stt A H W0 W1 t.val 17 26)) :
    Runs d L (k0_part41 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 1) (back (Y1 A W0 t.val) 3) (back (Y1 A W0 t.val) 17) (back (Y1 A W0 t.val) 18) (back (Y1 A W0 t.val) 21) (back (Y1 A W0 t.val) 23) (subf (broadcast S16 (Scalar.ofBits .f32 0x3F800000#32)) (divf (broadcast S16 (Scalar.ofBits .f32 0x40000000#32)) (addf (exp (mulf (addf (addf (addf (mulf (back (Y1 A W0 t.val) 16) (broadcast S16 (wd W1 84))) (mulf (back (Y1 A W0 t.val) 20) (broadcast S16 (wd W1 103)))) (addf (mulf (back (Y1 A W0 t.val) 22) (broadcast S16 (wd W1 112))) (mulf (back (Y1 A W0 t.val) 0) (broadcast S16 (wd W1 1))))) (mulf (back (Y1 A W0 t.val) 2) (broadcast S16 (wd W1 11)))) (broadcast S16 (Scalar.ofBits .f32 0x40000000#32)))) (broadcast S16 (Scalar.ofBits .f32 0x3F800000#32))))) v1826) (stt A H W0 W1 t.val 15 26) P := by
  unfold k0_part41
  refine Runs.bstore (n := 15) rfl (by decide) _ (by unfold Y2 lay lin term edge; rfl) ?_
  refine Runs.w1 89 ?_
  refine Runs.w1 108 ?_
  refine Runs.w1 117 ?_
  refine Runs.w1 7 ?_
  refine Runs.w1 16 ?_
  refine Runs.loadB ?_
  refine Runs.bstore (n := 16) rfl (by decide) _ (by unfold Y2 lay lin term edge; rfl) ?_
  refine Runs.w1 94 ?_
  exact Runs.ret h

theorem part42 {v23 : BitVec 32} {v34 : BitVec 32} {P : (Σ' (v1910 : FVec F S16 .f32) (v1914 : FVec F S16 .f32), FVec F S16 .f32) → St F → Prop}
    (h : P ⟨mulf (back (Y1 A W0 t.val) 19) (broadcast S16 (wd W1 99)), mulf (back (Y1 A W0 t.val) 23) (broadcast S16 (wd W1 118)), mulf (back (Y1 A W0 t.val) 25) (broadcast S16 (wd W1 127))⟩ (stt A H W0 W1 t.val 18 26)) :
    Runs d L (k0_part42 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 2) (back (Y1 A W0 t.val) 4) (back (Y1 A W0 t.val) 19) (back (Y1 A W0 t.val) 22) (back (Y1 A W0 t.val) 23) (back (Y1 A W0 t.val) 24) (back (Y1 A W0 t.val) 25) (mulf (back (Y1 A W0 t.val) 18) (broadcast S16 (wd W1 94)))) (stt A H W0 W1 t.val 17 26) P := by
  unfold k0_part42
  refine Runs.w1 113 ?_
  refine Runs.w1 122 ?_
  refine Runs.w1 12 ?_
  refine Runs.w1 21 ?_
  refine Runs.loadB ?_
  refine Runs.bstore (n := 17) rfl (by decide) _ (by unfold Y2 lay lin term edge; rfl) ?_
  refine Runs.w1 99 ?_
  refine Runs.w1 118 ?_
  refine Runs.w1 127 ?_
  exact Runs.ret h

theorem part43 {v23 : BitVec 32} {v34 : BitVec 32} {P : (Σ' (v1965 : FVec F S16 .f32) (v1966 : FVec F S16 .f32), FVec F S16 .f32) → St F → Prop}
    (h : P ⟨mulf (back (Y1 A W0 t.val) 6) (broadcast S16 (wd W1 32)), addf (mulf (back (Y1 A W0 t.val) 20) (broadcast S16 (wd W1 104))) (mulf (back (Y1 A W0 t.val) 24) (broadcast S16 (wd W1 123))), addf (mulf (back (Y1 A W0 t.val) 0) (broadcast S16 (wd W1 2))) (mulf (back (Y1 A W0 t.val) 4) (broadcast S16 (wd W1 22)))⟩ (stt A H W0 W1 t.val 19 26)) :
    Runs d L (k0_part43 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 0) (back (Y1 A W0 t.val) 3) (back (Y1 A W0 t.val) 4) (back (Y1 A W0 t.val) 5) (back (Y1 A W0 t.val) 6) (back (Y1 A W0 t.val) 20) (back (Y1 A W0 t.val) 24) (mulf (back (Y1 A W0 t.val) 19) (broadcast S16 (wd W1 99))) (mulf (back (Y1 A W0 t.val) 23) (broadcast S16 (wd W1 118))) (mulf (back (Y1 A W0 t.val) 25) (broadcast S16 (wd W1 127)))) (stt A H W0 W1 t.val 18 26) P := by
  unfold k0_part43
  refine Runs.w1 17 ?_
  refine Runs.w1 27 ?_
  refine Runs.loadB ?_
  refine Runs.bstore (n := 18) rfl (by decide) _ (by unfold Y2 lay lin term edge; rfl) ?_
  refine Runs.w1 104 ?_
  refine Runs.w1 123 ?_
  refine Runs.w1 2 ?_
  refine Runs.w1 22 ?_
  refine Runs.w1 32 ?_
  exact Runs.ret h

theorem part44 {v23 : BitVec 32} {v34 : BitVec 32} {P : (Σ' (v2013 : FVec F S16 .f32), F .f32) → St F → Prop}
    (h : P ⟨addf (exp (mulf (addf (addf (addf (mulf (back (Y1 A W0 t.val) 21) (broadcast S16 (wd W1 109))) (mulf (back (Y1 A W0 t.val) 25) (broadcast S16 (wd W1 128)))) (addf (mulf (back (Y1 A W0 t.val) 1) (broadcast S16 (wd W1 8))) (mulf (back (Y1 A W0 t.val) 5) (broadcast S16 (wd W1 28))))) (mulf (back (Y1 A W0 t.val) 7) (broadcast S16 (wd W1 38)))) (broadcast S16 (Scalar.ofBits .f32 0x40000000#32)))) (broadcast S16 (Scalar.ofBits .f32 0x3F800000#32)), Scalar.ofBits .f32 0x40000000#32⟩ (stt A H W0 W1 t.val 20 26)) :
    Runs d L (k0_part44 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 1) (back (Y1 A W0 t.val) 5) (back (Y1 A W0 t.val) 7) (back (Y1 A W0 t.val) 21) (back (Y1 A W0 t.val) 25) (mulf (back (Y1 A W0 t.val) 6) (broadcast S16 (wd W1 32))) (addf (mulf (back (Y1 A W0 t.val) 20) (broadcast S16 (wd W1 104))) (mulf (back (Y1 A W0 t.val) 24) (broadcast S16 (wd W1 123)))) (addf (mulf (back (Y1 A W0 t.val) 0) (broadcast S16 (wd W1 2))) (mulf (back (Y1 A W0 t.val) 4) (broadcast S16 (wd W1 22))))) (stt A H W0 W1 t.val 19 26) P := by
  unfold k0_part44
  refine Runs.loadB ?_
  refine Runs.bstore (n := 19) rfl (by decide) _ (by unfold Y2 lay lin term edge; rfl) ?_
  refine Runs.w1 109 ?_
  refine Runs.w1 128 ?_
  refine Runs.w1 8 ?_
  refine Runs.w1 28 ?_
  refine Runs.w1 38 ?_
  exact Runs.ret h

theorem part45 {v23 : BitVec 32} {v34 : BitVec 32} {P : (Σ' (v2056 : FVec F S16 .f32), Vec F S1x16 .f32) → St F → Prop}
    (h : ∀ (v2060 : Vec F S1x16 .f32), P ⟨subf (broadcast S16 (Scalar.ofBits .f32 0x3F800000#32)) (divf (broadcast S16 (Scalar.ofBits .f32 0x40000000#32)) (addf (exp (mulf (addf (addf (addf (mulf (back (Y1 A W0 t.val) 22) (broadcast S16 (wd W1 114))) (mulf (back (Y1 A W0 t.val) 0) (broadcast S16 (wd W1 3)))) (addf (mulf (back (Y1 A W0 t.val) 2) (broadcast S16 (wd W1 13))) (mulf (back (Y1 A W0 t.val) 6) (broadcast S16 (wd W1 33))))) (mulf (back (Y1 A W0 t.val) 8) (broadcast S16 (wd W1 43)))) (broadcast S16 (Scalar.ofBits .f32 0x40000000#32)))) (broadcast S16 (Scalar.ofBits .f32 0x3F800000#32)))), v2060⟩ (stt A H W0 W1 t.val 21 26)) :
    Runs d L (k0_part45 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 0) (back (Y1 A W0 t.val) 2) (back (Y1 A W0 t.val) 6) (back (Y1 A W0 t.val) 8) (back (Y1 A W0 t.val) 22) (addf (exp (mulf (addf (addf (addf (mulf (back (Y1 A W0 t.val) 21) (broadcast S16 (wd W1 109))) (mulf (back (Y1 A W0 t.val) 25) (broadcast S16 (wd W1 128)))) (addf (mulf (back (Y1 A W0 t.val) 1) (broadcast S16 (wd W1 8))) (mulf (back (Y1 A W0 t.val) 5) (broadcast S16 (wd W1 28))))) (mulf (back (Y1 A W0 t.val) 7) (broadcast S16 (wd W1 38)))) (broadcast S16 (Scalar.ofBits .f32 0x40000000#32)))) (broadcast S16 (Scalar.ofBits .f32 0x3F800000#32))) (Scalar.ofBits .f32 0x40000000#32)) (stt A H W0 W1 t.val 20 26) P := by
  unfold k0_part45
  refine Runs.loadB ?_
  refine Runs.bstore (n := 20) rfl (by decide) _ (by unfold Y2 lay lin term edge; rfl) ?_
  refine Runs.w1 114 ?_
  refine Runs.w1 3 ?_
  refine Runs.w1 13 ?_
  refine Runs.w1 33 ?_
  refine Runs.w1 43 ?_
  refine Runs.loadB ?_
  exact Runs.ret (h _)

theorem part46 {v23 : BitVec 32} {v34 : BitVec 32} {v2060 : Vec F S1x16 .f32} {P : (FVec F S16 .f32) → St F → Prop}
    (h : P (mulf (back (Y1 A W0 t.val) 24) (broadcast S16 (wd W1 124))) (stt A H W0 W1 t.val 23 26)) :
    Runs d L (k0_part46 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 1) (back (Y1 A W0 t.val) 3) (back (Y1 A W0 t.val) 7) (back (Y1 A W0 t.val) 9) (back (Y1 A W0 t.val) 23) (back (Y1 A W0 t.val) 24) (subf (broadcast S16 (Scalar.ofBits .f32 0x3F800000#32)) (divf (broadcast S16 (Scalar.ofBits .f32 0x40000000#32)) (addf (exp (mulf (addf (addf (addf (mulf (back (Y1 A W0 t.val) 22) (broadcast S16 (wd W1 114))) (mulf (back (Y1 A W0 t.val) 0) (broadcast S16 (wd W1 3)))) (addf (mulf (back (Y1 A W0 t.val) 2) (broadcast S16 (wd W1 13))) (mulf (back (Y1 A W0 t.val) 6) (broadcast S16 (wd W1 33))))) (mulf (back (Y1 A W0 t.val) 8) (broadcast S16 (wd W1 43)))) (broadcast S16 (Scalar.ofBits .f32 0x40000000#32)))) (broadcast S16 (Scalar.ofBits .f32 0x3F800000#32))))) v2060) (stt A H W0 W1 t.val 21 26) P := by
  unfold k0_part46
  refine Runs.bstore (n := 21) rfl (by decide) _ (by unfold Y2 lay lin term edge; rfl) ?_
  refine Runs.w1 119 ?_
  refine Runs.w1 9 ?_
  refine Runs.w1 18 ?_
  refine Runs.w1 39 ?_
  refine Runs.w1 48 ?_
  refine Runs.loadB ?_
  refine Runs.bstore (n := 22) rfl (by decide) _ (by unfold Y2 lay lin term edge; rfl) ?_
  refine Runs.w1 124 ?_
  exact Runs.ret h

theorem part47 {v23 : BitVec 32} {v34 : BitVec 32} {P : (Σ' (v2144 : FVec F S16 .f32) (v2148 : FVec F S16 .f32), FVec F S16 .f32) → St F → Prop}
    (h : P ⟨mulf (back (Y1 A W0 t.val) 25) (broadcast S16 (wd W1 129)), mulf (back (Y1 A W0 t.val) 3) (broadcast S16 (wd W1 19)), mulf (back (Y1 A W0 t.val) 5) (broadcast S16 (wd W1 29))⟩ (stt A H W0 W1 t.val 24 26)) :
    Runs d L (k0_part47 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 2) (back (Y1 A W0 t.val) 3) (back (Y1 A W0 t.val) 4) (back (Y1 A W0 t.val) 5) (back (Y1 A W0 t.val) 8) (back (Y1 A W0 t.val) 10) (back (Y1 A W0 t.val) 25) (mulf (back (Y1 A W0 t.val) 24) (broadcast S16 (wd W1 124)))) (stt A H W0 W1 t.val 23 26) P := by
  unfold k0_part47
  refine Runs.w1 14 ?_
  refine Runs.w1 23 ?_
  refine Runs.w1 44 ?_
  refine Runs.w1 53 ?_
  refine Runs.loadB ?_
  refine Runs.bstore (n := 23) rfl (by decide) _ (by unfold Y2 lay lin term edge; rfl) ?_
  refine Runs.w1 129 ?_
  refine Runs.w1 19 ?_
  refine Runs.w1 29 ?_
  exact Runs.ret h

theorem part48 {v23 : BitVec 32} {v34 : BitVec 32} {P : (Σ' (v2199 : FVec F S16 .f32) (v2200 : FVec F S16 .f32), FVec F S16 .f32) → St F → Prop}
    (h : P ⟨mulf (back (Y1 A W0 t.val) 12) (broadcast S16 (wd W1 64)), addf (mulf (back (Y1 A W0 t.val) 0) (broadcast S16 (wd W1 4))) (mulf (back (Y1 A W0 t.val) 4) (broadcast S16 (wd W1 24))), addf (mulf (back (Y1 A W0 t.val) 6) (broadcast S16 (wd W1 34))) (mulf (back (Y1 A W0 t.val) 10) (broadcast S16 (wd W1 54)))⟩ (stt A H W0 W1 t.val 25 26)) :
    Runs d L (k0_part48 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t v23 v34 (back (Y1 A W0 t.val) 0) (back (Y1 A W0 t.val) 4) (back (Y1 A W0 t.val) 6) (back (Y1 A W0 t.val) 9) (back (Y1 A W0 t.val) 10) (back (Y1 A W0 t.val) 11) (back (Y1 A W0 t.val) 12) (mulf (back (Y1 A W0 t.val) 25) (broadcast S16 (wd W1 129))) (mulf (back (Y1 A W0 t.val) 3) (broadcast S16 (wd W1 19))) (mulf (back (Y1 A W0 t.val) 5) (broadcast S16 (wd W1 29)))) (stt A H W0 W1 t.val 24 26) P := by
  unfold k0_part48
  refine Runs.w1 49 ?_
  refine Runs.w1 59 ?_
  refine Runs.loadB ?_
  refine Runs.bstore (n := 24) rfl (by decide) _ (by unfold Y2 lay lin term edge; rfl) ?_
  refine Runs.w1 4 ?_
  refine Runs.w1 24 ?_
  refine Runs.w1 34 ?_
  refine Runs.w1 54 ?_
  refine Runs.w1 64 ?_
  exact Runs.ret h

/-- The parts in a row: everything of one trip but its last row's store. -/
theorem part49 {c0_i32_3 c1_i32_4 : BitVec 32} {P : (Σ' (v23 : BitVec 32) (v34 : BitVec 32), FVec F S16 .f32) → St F → Prop}
    (h : ∀ v23 v34 : BitVec 32, P ⟨v23, v34, divf (broadcast S16 (Scalar.ofBits .f32 0x40000000#32))
      (addf (exp (mulf (lin W1 (back (Y1 A W0 t.val)) 25) (broadcast S16 (Scalar.ofBits .f32 0x40000000#32)))) (broadcast S16 (Scalar.ofBits .f32 0x3F800000#32)))⟩
      (stt A H W0 W1 t.val 25 26)) :
    Runs d L (k0_part49 L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 c0_i32_3 c1_i32_4 t) (stt A H W0 W1 t.val 0 0) P := by
  unfold k0_part49
  refine Runs.bind (part1 fun _ _ => ?_)
  refine Runs.bind (part2 ?_)
  refine Runs.bind (part3 ?_)
  refine Runs.bind (part4 ?_)
  refine Runs.bind (part5 ?_)
  refine Runs.bind (part6 ?_)
  refine Runs.bind (part7 ?_)
  refine Runs.bind (part8 ?_)
  refine Runs.bind (part9 ?_)
  refine Runs.bind (part10 ?_)
  refine Runs.bind (part11 ?_)
  refine Runs.bind (part12 ?_)
  refine Runs.bind (part13 ?_)
  refine Runs.bind (part14 ?_)
  refine Runs.bind (part15 ?_)
  refine Runs.bind (part16 ?_)
  refine Runs.bind (part17 ?_)
  refine Runs.bind (part18 ?_)
  refine Runs.bind (part19 ?_)
  refine Runs.bind (part20 fun _ => ?_)
  refine Runs.bind (part21 ?_)
  refine Runs.bind (part22 fun _ => ?_)
  refine Runs.bind (part23 ?_)
  refine Runs.bind (part24 fun _ => ?_)
  refine Runs.bind (part25 ?_)
  refine Runs.bind (part26 ?_)
  refine Runs.bind (part27 ?_)
  refine Runs.bind (part28 ?_)
  refine Runs.bind (part29 ?_)
  refine Runs.bind (part30 fun _ => ?_)
  refine Runs.bind (part31 ?_)
  refine Runs.bind (part32 ?_)
  refine Runs.bind (part33 ?_)
  refine Runs.bind (part34 ?_)
  refine Runs.bind (part35 fun _ => ?_)
  refine Runs.bind (part36 ?_)
  refine Runs.bind (part37 ?_)
  refine Runs.bind (part38 ?_)
  refine Runs.bind (part39 ?_)
  refine Runs.bind (part40 fun _ => ?_)
  refine Runs.bind (part41 ?_)
  refine Runs.bind (part42 ?_)
  refine Runs.bind (part43 ?_)
  refine Runs.bind (part44 ?_)
  refine Runs.bind (part45 fun _ => ?_)
  refine Runs.bind (part46 ?_)
  refine Runs.bind (part47 ?_)
  refine Runs.bind (part48 ?_)
  exact Runs.ret (h _ _)

end Cert.Proof.KernelIdeal

end
-- ==== Proof.LoopIdeal.lean ====
/-
  The inner loop as a whole. One trip replaces group `t`'s 26 rows by the two layers' result (`group_runs`); the
  groups are disjoint and a group's result depends on its own rows alone, so after `k` trips the chunk holds the
  result on its first `k` groups and is untouched on the rest (`chk`); `inner_runs` is the loop, `Runs.frame` lets
  a caller that holds more than the four buffers use it.
-/
module

public import proofs.«01_k».proof.Proof.PartsIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "bV" => (Memref.whole Cert.KernelIdeal.cc0_scratch0 : Memref Cert.KernelIdeal.sig Kind.scVector Space.vmem Cert.KernelIdeal.S832x128 EltTy.f32)
local notation "hV" => (Memref.whole Cert.KernelIdeal.cc0_scratch1 : Memref Cert.KernelIdeal.sig Kind.scVector Space.vmem Cert.KernelIdeal.S26x16 EltTy.f32)
local notation "uV" => (Memref.whole Cert.KernelIdeal.cc0_scratch2 : Memref Cert.KernelIdeal.sig Kind.scVector Space.smem Cert.KernelIdeal.S130 EltTy.f32)
local notation "wV" => (Memref.whole Cert.KernelIdeal.cc0_scratch3 : Memref Cert.KernelIdeal.sig Kind.scVector Space.smem Cert.KernelIdeal.S130 EltTy.f32)

variable {d : Dev nD} {L : grid0.Coords}
variable {arg2 : Memref sig .scVector .hbm S832x16384 .f32} {harg2 : arg2.IsWhole} {arg3 : Memref sig .scVector .hbm S130 .f32} {harg3 : arg3.IsWhole}
  {arg4 : Memref sig .scVector .hbm S130 .f32} {harg4 : arg4.IsWhole} {arg5 : Memref sig .scVector .hbm S832x16384 .f32} {harg5 : arg5.IsWhole}
  {arg10 : Memref sig .scVector .shared S16x130 .f32} {harg10 : arg10.IsWhole} {arg11 : Memref sig .scVector .shared S16x130 .f32} {harg11 : arg11.IsWhole}
  {r0 r1 r2 r3 r4 r5 : DmaSems sig S_}

/-! ## One trip -/

theorem group_runs (A : S832x128.Idx → Elt F .f32) (H : S26x16.Idx → Elt F .f32) (W0 W1 : S130.Idx → Elt F .f32) (t : Fin k0_t2_loop.trips) (u : Unit) :
    Runs d L (k0_t2_body L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5 t u)
      (stt A H W0 W1 t.val 0 0) (fun _ s => s = stt A H W0 W1 t.val 26 26) := by
  unfold k0_t2_body
  refine Runs.bind (part49 fun v23 v34 => ?_)
  refine Runs.loadB ?_
  refine Runs.bstore (n := 25) rfl (by decide) _ (by unfold Y2 lay lin term edge; rfl) ?_
  exact Runs.ret rfl

/-! ## The groups of a chunk -/

/-- The group a place of the chunk is in. -/
def gof (x : S832x128.Idx) : ℕ := (x 0).val % 32 * 8 + (x 1).val / 16

/-- The chunk after `k` groups. -/
def chk (A : S832x128.Idx → Elt F .f32) (W0 W1 : S130.Idx → Elt F .f32) (k : ℕ) : S832x128.Idx → Elt F .f32 :=
  fun x => if gof x < k then Y2 A W0 W1 (gof x) ((x 0).val / 32) (lane ((x 1).val % 16) (Nat.mod_lt _ (by decide))) else A x

theorem chk_zero (A : S832x128.Idx → Elt F .f32) (W0 W1 : S130.Idx → Elt F .f32) : chk A W0 W1 0 = A := by
  funext x; simp [chk]

theorem X_chk (A : S832x128.Idx → Elt F .f32) (W0 W1 : S130.Idx → Elt F .f32) (k : ℕ) (hk : k < 256) : X (chk A W0 W1 k) k = X A k := by
  funext f
  refine congrArg (fun v => shapeCast S16 v shapeCasts_S1x16_S16) (funext fun l => ?_)
  have hl : (l 1).val < 16 := (l 1).isLt
  unfold rowv chk
  refine if_neg ?_
  show ¬ ((32 * f + k / 8) % 832 % 32 * 8 + (k % 8 * 16 + (l 1).val) % 128 / 16 < k)
  omega

theorem chk_succ (A : S832x128.Idx → Elt F .f32) (W0 W1 : S130.Idx → Elt F .f32) (k : ℕ) (hk : k < 256) :
    stA (chk A W0 W1 k) k (Y2 (chk A W0 W1 k) W0 W1 k) 26 = chk A W0 W1 (k + 1) := by
  have e : Y2 (chk A W0 W1 k) W0 W1 k = Y2 A W0 W1 k := by unfold Y2 Y1; rw [X_chk A W0 W1 k hk]
  rw [e]
  funext x
  have h0 : (x 0).val < 832 := (x 0).isLt
  have h1 : (x 1).val < 128 := (x 1).isLt
  unfold stA
  by_cases h : gof x = k
  · have h' := h
    unfold gof at h'
    rw [if_pos (by omega)]
    unfold chk
    rw [if_pos (by omega), h]
  · have h' := h
    unfold gof at h'
    rw [if_neg (by omega)]
    unfold chk
    by_cases h2 : gof x < k
    · rw [if_pos h2, if_pos (by omega)]
    · rw [if_neg h2, if_neg (by omega)]

/-! ## A loop -/

theorem Runs.loop {l : Scf.Loop 32} {ok : l.OK} {body : Fin l.trips → PUnit → Prog (TpuEff nD τ sig (Elt F) Λ₀ (.scVector (cV L) (jV L))) PUnit}
    {s : St F} {P : PUnit → St F → Prop} (I : ℕ → St F → Prop) (h0 : I 0 s)
    (hb : ∀ (k : Fin l.trips) (u : PUnit) (s : St F), I k.val s → Runs d L (body k u) s fun _ s' => I (k.val + 1) s') (hP : ∀ s, I l.trips s → P ⟨⟩ s) :
    Runs d L (Scf.Loop.for l ok ⟨⟩ body) s P := fun Q hQ => by
  have hI : ∀ (k : Fin l.trips) (u : PUnit), (iprop(∃ s, ⌜I k.val s⌝ ∗ own d L s) : sProp 𝕄)
      ⊢ wp Idealize.ShloMosaic.frame (wpE (defs₀ (F := F)) 𝒱₀ (V d (cV L) (jV L)) none) Set.univ (body k u) (fun _ => iprop(∃ s, ⌜I (k.val + 1) s⌝ ∗ own d L s)) := by
    intro k u
    iintro ⟨%s', %hs', Hs⟩
    iapply (hb k u s' hs' (fun _ => iprop(∃ s, ⌜I (k.val + 1) s⌝ ∗ own d L s)) fun v s'' hv => by
      iintro Hs
      iexists s''; isplitr; · ipureintro; exact hv
      iexact Hs)
    iexact Hs
  have hw := Scf.wp_for Idealize.ShloMosaic.frame (wpE (defs₀ (F := F)) 𝒱₀ (V d (cV L) (jV L)) none) Set.univ l.lb l.ub l.st ok ⟨⟩ body
    (fun k _ => (iprop(∃ s, ⌜I k s⌝ ∗ own d L s) : sProp 𝕄)) hI (Q := Q)
  have hp : own d L s ⊢ iprop((∃ s, ⌜I 0 s⌝ ∗ own d L s) ∗ (∀ u, (∃ s, ⌜I l.trips s⌝ ∗ own d L s) -∗ Q u)) := by
    iintro Hs
    isplitl [Hs]
    · iexists s; isplitr; · ipureintro; exact h0
      iexact Hs
    · iintro %u ⟨%s', %hs', Hs⟩
      iapply (hQ u s' (hP s' hs')); iexact Hs
  exact hp.trans hw

theorem inner_runs (A : S832x128.Idx → Elt F .f32) (H : S26x16.Idx → Elt F .f32) (W0 W1 : S130.Idx → Elt F .f32) :
    Runs d L (Scf.Loop.for k0_t2_loop k0_t2_ok ⟨⟩ (k0_t2_body L arg2 harg2 arg3 harg3 arg4 harg4 arg5 harg5 bV (Memref.isWhole_whole _) hV (Memref.isWhole_whole _) uV (Memref.isWhole_whole _) wV (Memref.isWhole_whole _) arg10 harg10 arg11 harg11 r0 r1 r2 r3 r4 r5))
      ⟨A, H, W0, W1⟩ (fun _ s => ∃ H', s = ⟨chk A W0 W1 256, H', W0, W1⟩) := by
  refine Runs.loop (fun k s => ∃ H', s = ⟨chk A W0 W1 k, H', W0, W1⟩) ⟨H, by rw [chk_zero]⟩ ?_ ?_
  · rintro k u s ⟨H', rfl⟩
    have hk : k.val < 256 := lt_of_lt_of_eq k.isLt trips2
    have h := group_runs (d := d) (L := L) (arg2 := arg2) (harg2 := harg2) (arg3 := arg3) (harg3 := harg3) (arg4 := arg4) (harg4 := harg4) (arg5 := arg5) (harg5 := harg5)
      (arg10 := arg10) (harg10 := harg10) (arg11 := arg11) (harg11 := harg11) (r0 := r0) (r1 := r1) (r2 := r2) (r3 := r3) (r4 := r4) (r5 := r5) (chk A W0 W1 k.val) H' W0 W1 k u
    unfold stt at h
    rw [stA_zero, stH_zero, chk_succ A W0 W1 k.val hk] at h
    exact h.mono fun _ s' hs => ⟨_, hs⟩
  · intro s hs
    rw [trips2] at hs
    exact hs

/-- Beside whatever else is held. -/
theorem Runs.frame {α β : Type} {p : Prog (TpuEff nD τ sig (Elt F) Λ₀ (.scVector (cV L) (jV L))) β}
    {k : β → Prog (TpuEff nD τ sig (Elt F) Λ₀ (.scVector (cV L) (jV L))) α} {s : St F} {P : β → St F → Prop} (h : Runs d L p s P) (Q : α → sProp 𝕄) :
    own d L s ⊢ iprop((∀ v s', ⌜P v s'⌝ -∗ own d L s' -∗ wp frame (wpE (defs₀ (F := F)) 𝒱₀ (V d (cV L) (jV L)) none) Set.univ (k v) Q)
      -∗ wp frame (wpE (defs₀ (F := F)) 𝒱₀ (V d (cV L) (jV L)) none) Set.univ (p >>= k) Q) := by
  rw [wp_bind]
  have h1 := h (fun v => iprop(∃ s', ⌜P v s'⌝ ∗ own d L s')) (fun v s' hv => by
    iintro Hs; iexists s'; isplitr; · ipureintro; exact hv
    iexact Hs)
  iintro Hs HK
  iapply (wp_wand Idealize.ShloMosaic.frame _ _ (Q := fun v => iprop(∃ s', ⌜P v s'⌝ ∗ own d L s'))) $$ [Hs]
  · iapply h1; iexact Hs
  iintro %v ⟨%s', %hv, Hs⟩
  iapply HK $$ %v %s' %hv
  iexact Hs

end Cert.Proof.KernelIdeal

end
-- ==== Proof.TileIdeal.lean ====
/-
  One tile's task, with its value: the two weight tables from the arrays into the tile's rows of the shared scratch and
  on into its own scalar memory, then four chunks of 128 columns, each fetched, run through the inner loop
  (`inner_runs`) and written out. The outer loop's invariant says that the tile's first `k` chunks of the result hold
  `OUT`, the two layers as the kernel computes them, and the rest is as it was.
-/
module

public import proofs.«01_k».proof.Proof.LoopIdeal
public import Idealize.ShloMosaic.Lib.SparseCore.Quiescent
public import Idealize.ShloMosaic.Lib.SparseCore.Ops
public import Idealize.ShloMosaic.Lib.ShareLeaves

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

abbrev EH : Emb UH (MT nD τ sig (HIx 1) (Elt F) ℕ UU ℕ) := embL

/-! ## The buffers -/

local notation "xV" => (Memref.whole Cert.KernelIdeal.main_v1_scv : Memref Cert.KernelIdeal.sig Kind.scVector Space.hbm Cert.KernelIdeal.S832x16384 EltTy.f32)
local notation "aV" => (Memref.whole Cert.KernelIdeal.main_arg1_scv : Memref Cert.KernelIdeal.sig Kind.scVector Space.hbm Cert.KernelIdeal.S130 EltTy.f32)
local notation "cV'" => (Memref.whole Cert.KernelIdeal.main_arg2_scv : Memref Cert.KernelIdeal.sig Kind.scVector Space.hbm Cert.KernelIdeal.S130 EltTy.f32)
local notation "oV" => (Memref.whole Cert.KernelIdeal.main_v2_scv : Memref Cert.KernelIdeal.sig Kind.scVector Space.hbm Cert.KernelIdeal.S832x16384 EltTy.f32)
local notation "bV" => (Memref.whole Cert.KernelIdeal.cc0_scratch0 : Memref Cert.KernelIdeal.sig Kind.scVector Space.vmem Cert.KernelIdeal.S832x128 EltTy.f32)
local notation "hV" => (Memref.whole Cert.KernelIdeal.cc0_scratch1 : Memref Cert.KernelIdeal.sig Kind.scVector Space.vmem Cert.KernelIdeal.S26x16 EltTy.f32)
local notation "uV" => (Memref.whole Cert.KernelIdeal.cc0_scratch2 : Memref Cert.KernelIdeal.sig Kind.scVector Space.smem Cert.KernelIdeal.S130 EltTy.f32)
local notation "wV" => (Memref.whole Cert.KernelIdeal.cc0_scratch3 : Memref Cert.KernelIdeal.sig Kind.scVector Space.smem Cert.KernelIdeal.S130 EltTy.f32)
local notation "s0V" => (Memref.whole Cert.KernelIdeal.cc0_scratch4 : Memref Cert.KernelIdeal.sig Kind.scVector Space.shared Cert.KernelIdeal.S16x130 EltTy.f32)
local notation "s1V" => (Memref.whole Cert.KernelIdeal.cc0_scratch5 : Memref Cert.KernelIdeal.sig Kind.scVector Space.shared Cert.KernelIdeal.S16x130 EltTy.f32)

abbrev xLoc (d : Dev nD) : Loc nD τ sig := (SparseCore.T d).loc main_v1
abbrev aLoc (d : Dev nD) : Loc nD τ sig := (SparseCore.T d).loc main_arg1
abbrev cLoc (d : Dev nD) : Loc nD τ sig := (SparseCore.T d).loc main_arg2
abbrev oLoc (d : Dev nD) : Loc nD τ sig := (SparseCore.T d).loc main_v2

/-- A SparseCore's two shared scratch buffers, as every tile of it addresses them. -/
abbrev sh0Ref (c : Fin τ.nSC) : DevRef τ sig := ⟨.shared, ⟨0, by decide⟩, c⟩
abbrev sh1Ref (c : Fin τ.nSC) : DevRef τ sig := ⟨.shared, ⟨1, by decide⟩, c⟩
abbrev sh0Loc (d : Dev nD) (c : Fin τ.nSC) : Loc nD τ sig := (d, sh0Ref c)
abbrev sh1Loc (d : Dev nD) (c : Fin τ.nSC) : Loc nD τ sig := (d, sh1Ref c)

/-- Row `i` of a shared scratch, -/
theorem hdivS : 16 ∣ S16x130.size 0 := ⟨1, rfl⟩
abbrev row (i : Fin 16) : Rect S16x130 := Rect.part (s := S16x130) (a₀ := 0) hdivS i
abbrev rowSet (i : Fin 16) : Finset S16x130.Idx := (row i).set
/-- tile `w`'s 512 columns of the result. -/
theorem hdivO : 32 ∣ S832x16384.size 1 := ⟨512, rfl⟩
abbrev cols (w : Fin 32) : Rect S832x16384 := Rect.part (s := S832x16384) (a₀ := 1) hdivO w
abbrev colSet (w : Fin 32) : Finset S832x16384.Idx := (cols w).set

theorem bound_zero : grid0.bound 0 = 2 := rfl
theorem bound_one : grid0.bound 1 = 16 := rfl
abbrev jL (L : grid0.Coords) : Fin 16 := Fin.cast bound_one (L 1)
/-- The tile's number among the 32. -/
abbrev wid (c : Fin 2) (i : Fin 16) : Fin 32 := ⟨i.val * 2 + c.val, by omega⟩
abbrev wL (L : grid0.Coords) : Fin 32 := wid (Fin.cast bound_zero (L 0)) (jL L)

theorem mem_colSet (w : Fin 32) (x : S832x16384.Idx) : x ∈ colSet w ↔ (x 1).val / 512 = w.val := by
  have h1 : (x 1).val < 16384 := (x 1).isLt
  unfold colSet cols Rect.part Rect.block
  rw [Rect.mem_set_unit]
  constructor
  · intro h
    have := h 1
    simp [Shape.partIx, Shape.partSize] at this
    omega
  · intro h a
    match a with
    | 0 => simp [Shape.partIx, Shape.partSize]; exact (x 0).isLt
    | 1 => simp [Shape.partIx, Shape.partSize]; omega

variable [FloatOps F]

/-! ## The value -/

/-- Chunk `q` of 128 columns. -/
def chunk (xt : S832x16384.Idx → Elt F .f32) (q : ℕ) : S832x128.Idx → Elt F .f32 :=
  fun y => xt (ix2 (y 0) ⟨(q * 128 + (y 1).val) % 16384, Nat.mod_lt _ (by decide)⟩)

/-- What the kernel computes, chunk by chunk. -/
def OUT (xt : S832x16384.Idx → Elt F .f32) (W0 W1 : S130.Idx → Elt F .f32) : S832x16384.Idx → Elt F .f32 :=
  fun x => chk (chunk xt ((x 1).val / 128)) W0 W1 256 (ix2 (x 0) ⟨(x 1).val % 128, Nat.mod_lt _ (by decide)⟩)

/-- The result with the tile's first `k` chunks done. -/
def outK (g o : S832x16384.Idx → Elt F .f32) (k : ℕ) : S832x16384.Idx → Elt F .f32 :=
  fun x => if (x 1).val % 512 / 128 < k then o x else g x

/-- What a task holds of the arrays: a share of the three inputs, and its columns of the result. -/
abbrev ops (d : Dev nD) (w : Fin 32) (qx qa qc : PosShare TreeShare) (xt : Buf (Elt F) (xLoc d)) (W0 : Buf (Elt F) (aLoc d)) (W1 : Buf (Elt F) (cLoc d))
    (g : Buf (Elt F) (oLoc d)) : sProp 𝕄 :=
  iprop((xLoc d ↦{qx} xt) ∗ (aLoc d ↦{qa} W0) ∗ (cLoc d ↦{qc} W1) ∗ oLoc d ↦[colSet w]{fullShare} g)
/-- Its row of each shared scratch. -/
abbrev sh0Pts (d : Dev nD) (c : Fin τ.nSC) (i : Fin 16) (f : Buf (Elt F) (sh0Loc d c)) : sProp 𝕄 := sh0Loc d c ↦[rowSet i]{fullShare} f
abbrev sh1Pts (d : Dev nD) (c : Fin τ.nSC) (i : Fin 16) (f : Buf (Elt F) (sh1Loc d c)) : sProp 𝕄 := sh1Loc d c ↦[rowSet i]{fullShare} f
abbrev shRows (d : Dev nD) (c : Fin τ.nSC) (i : Fin 16) : sProp 𝕄 := iprop((∃ f, sh0Pts (F := F) d c i f) ∗ ∃ f, sh1Pts (F := F) d c i f)

section Tile

variable (d : Dev nD) (L : grid0.Coords)

abbrev rowK (L : grid0.Coords) : Rect S16x130 := Rect.unit (s := S16x130) (k0_off1 L) S1x130.size (k0_off1_inb L)
abbrev s0K (L : grid0.Coords) : Memref sig .scVector .shared S130 .f32 := ((s0V).slice (rowK L) (fun _ => rfl)).squeeze S130 squeezes_S1x130_S130
abbrev s1K (L : grid0.Coords) : Memref sig .scVector .shared S130 .f32 := ((s1V).slice (rowK L) (fun _ => rfl)).squeeze S130 squeezes_S1x130_S130
abbrev chK (L : grid0.Coords) (t : Fin k0_t1_loop.trips) : Rect S832x16384 := Rect.unit (s := S832x16384) (k0_off2 L t) S832x128.size (k0_off2_inb L t)
abbrev xK (L : grid0.Coords) (t : Fin k0_t1_loop.trips) : Memref sig .scVector .hbm S832x128 .f32 := (xV).slice (chK L t) (fun _ => rfl)
abbrev oK (L : grid0.Coords) (t : Fin k0_t1_loop.trips) : Memref sig .scVector .hbm S832x128 .f32 := (oV).slice (chK L t) (fun _ => rfl)

omit [FloatOps F] in
theorem rowK_eq : rowK L = row (jL L) := by
  unfold rowK row Rect.part Rect.block
  congr 1 <;> funext a
  · rw [k0_off1_eq]
    match a with
    | 0 => simp [Shape.partIx, Shape.partSize]
    | 1 => simp [Shape.partIx, Shape.partSize]
  · match a with
    | 0 => simp [Shape.partSize]
    | 1 => simp [Shape.partSize]

omit [FloatOps F] in
theorem set_s0K : (s0K L).view.set = rowSet (jL L) := by
  show (((s0V).view.slice (rowK L)).reshape S130 squeezes_S1x130_S130.numel_eq).set = (row (jL L)).set
  rw [View.set_reshape, View.set_slice, ← rowK_eq]; exact Finset.map_refl
omit [FloatOps F] in
theorem set_s1K : (s1K L).view.set = rowSet (jL L) := by
  show (((s1V).view.slice (rowK L)).reshape S130 squeezes_S1x130_S130.numel_eq).set = (row (jL L)).set
  rw [View.set_reshape, View.set_slice, ← rowK_eq]; exact Finset.map_refl

omit [FloatOps F] in
theorem pts_s0K (f : Buf (Elt F) (sh0Loc d (cV L))) :
    ((s0K L).view.loc (V d (cV L) (jV L)) ↦[(s0K L).view.set]{fullShare} f : sProp 𝕄) = (sh0Loc d (cV L) ↦[rowSet (jL L)]{fullShare} f) := by
  rw [set_s0K]; rfl
omit [FloatOps F] in
theorem pts_s1K (f : Buf (Elt F) (sh1Loc d (cV L))) :
    ((s1K L).view.loc (V d (cV L) (jV L)) ↦[(s1K L).view.set]{fullShare} f : sProp 𝕄) = (sh1Loc d (cV L) ↦[rowSet (jL L)]{fullShare} f) := by
  rw [set_s1K]; rfl

abbrev cell (r : DmaSems sig S_) (d : Dev nD) (L : grid0.Coords) : GSem nD τ sig := (V d (cV L) (jV L), .dma r.sem)

omit [FloatOps F] in
theorem mem_cell (r : DmaSems sig S_) (h : (SemLoc.dma r.sem : SemLoc sig).isScoped .scVector = true) : cell r d L ∈ ownCells (V d (cV L) (jV L)) :=
  (mem_ownCells (g := cell r d L)).mpr ⟨rfl, h⟩
omit [FloatOps F] in
theorem cell_ne {r r' : DmaSems sig S_} (h : (SemLoc.dma r.sem : SemLoc sig) ≠ SemLoc.dma r'.sem) : cell r d L ≠ cell r' d L :=
  fun e => h (Prod.mk.inj e).2

abbrev restCells (d : Dev nD) (L : grid0.Coords) : Finset (GSem nD τ sig) :=
  ((((((ownCells (V d (cV L) (jV L))).erase (cell cc0_scoped0 d L)).erase (cell cc0_scoped1 d L)).erase (cell cc0_scoped2 d L)).erase
    (cell cc0_scoped3 d L)).erase (cell cc0_scoped4 d L)).erase (cell cc0_scoped5 d L)

omit [FloatOps F] in
theorem ownSems0_V :
    (ownSems0 (V d (cV L) (jV L)) : sProp 𝕄)
      = iprop(semVal (cell cc0_scoped0 d L) 0 ∗ semVal (cell cc0_scoped1 d L) 0 ∗ semVal (cell cc0_scoped2 d L) 0
          ∗ semVal (cell cc0_scoped3 d L) 0 ∗ semVal (cell cc0_scoped4 d L) 0 ∗ semVal (cell cc0_scoped5 d L) 0
          ∗ bigSep (restCells d L) fun g => semVal g 0) := by
  unfold SparseCore.Cfg.ownSems0
  have m0 := mem_cell d L cc0_scoped0 (by decide)
  have m1 := mem_cell d L cc0_scoped1 (by decide)
  have m2 := mem_cell d L cc0_scoped2 (by decide)
  have m3 := mem_cell d L cc0_scoped3 (by decide)
  have m4 := mem_cell d L cc0_scoped4 (by decide)
  have m5 := mem_cell d L cc0_scoped5 (by decide)
  have n10 := cell_ne d L (r := cc0_scoped1) (r' := cc0_scoped0) (by decide)
  have n20 := cell_ne d L (r := cc0_scoped2) (r' := cc0_scoped0) (by decide)
  have n21 := cell_ne d L (r := cc0_scoped2) (r' := cc0_scoped1) (by decide)
  have n30 := cell_ne d L (r := cc0_scoped3) (r' := cc0_scoped0) (by decide)
  have n31 := cell_ne d L (r := cc0_scoped3) (r' := cc0_scoped1) (by decide)
  have n32 := cell_ne d L (r := cc0_scoped3) (r' := cc0_scoped2) (by decide)
  have n40 := cell_ne d L (r := cc0_scoped4) (r' := cc0_scoped0) (by decide)
  have n41 := cell_ne d L (r := cc0_scoped4) (r' := cc0_scoped1) (by decide)
  have n42 := cell_ne d L (r := cc0_scoped4) (r' := cc0_scoped2) (by decide)
  have n43 := cell_ne d L (r := cc0_scoped4) (r' := cc0_scoped3) (by decide)
  have n50 := cell_ne d L (r := cc0_scoped5) (r' := cc0_scoped0) (by decide)
  have n51 := cell_ne d L (r := cc0_scoped5) (r' := cc0_scoped1) (by decide)
  have n52 := cell_ne d L (r := cc0_scoped5) (r' := cc0_scoped2) (by decide)
  have n53 := cell_ne d L (r := cc0_scoped5) (r' := cc0_scoped3) (by decide)
  have n54 := cell_ne d L (r := cc0_scoped5) (r' := cc0_scoped4) (by decide)
  have e1 := Finset.mem_erase.mpr ⟨n10, m1⟩
  have e2 := Finset.mem_erase.mpr ⟨n21, Finset.mem_erase.mpr ⟨n20, m2⟩⟩
  have e3 := Finset.mem_erase.mpr ⟨n32, Finset.mem_erase.mpr ⟨n31, Finset.mem_erase.mpr ⟨n30, m3⟩⟩⟩
  have e4 := Finset.mem_erase.mpr ⟨n43, Finset.mem_erase.mpr ⟨n42, Finset.mem_erase.mpr ⟨n41, Finset.mem_erase.mpr ⟨n40, m4⟩⟩⟩⟩
  have e5 := Finset.mem_erase.mpr ⟨n54, Finset.mem_erase.mpr ⟨n53, Finset.mem_erase.mpr ⟨n52, Finset.mem_erase.mpr ⟨n51, Finset.mem_erase.mpr ⟨n50, m5⟩⟩⟩⟩⟩
  rw [SparseCore.bigSep_erase' m0, SparseCore.bigSep_erase' e1, SparseCore.bigSep_erase' e2, SparseCore.bigSep_erase' e3,
    SparseCore.bigSep_erase' e4, SparseCore.bigSep_erase' e5]

abbrev bref (b : Ref sig .scVector) (L : grid0.Coords) : DevRef τ sig := (Proc.scVector (cV L) (jV L)).devRef b
abbrev restRefs (L : grid0.Coords) : Finset (DevRef τ sig) :=
  ((((ownRefs (τ := τ) (.scVector (cV L) (jV L))).erase (bref cc0_scratch0 L)).erase (bref cc0_scratch1 L)).erase (bref cc0_scratch2 L)).erase (bref cc0_scratch3 L)

omit [FloatOps F] in
/-- The four scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (restRefs L) fun b => iprop(∃ f, ((d, b) : Loc nD τ sig) ↦{fullShare} f)) := by
  unfold SparseCore.Cfg.ownBufs
  have m0 : bref cc0_scratch0 L ∈ ownRefs (τ := τ) (.scVector (cV L) (jV L)) := SparseCore.Cfg.mem_ownRefs_of_owner (p := Proc.scVector (cV L) (jV L)) (b := bref cc0_scratch0 L) rfl
  have m1 : bref cc0_scratch1 L ∈ ownRefs (τ := τ) (.scVector (cV L) (jV L)) := SparseCore.Cfg.mem_ownRefs_of_owner (p := Proc.scVector (cV L) (jV L)) (b := bref cc0_scratch1 L) rfl
  have m2 : bref cc0_scratch2 L ∈ ownRefs (τ := τ) (.scVector (cV L) (jV L)) := SparseCore.Cfg.mem_ownRefs_of_owner (p := Proc.scVector (cV L) (jV L)) (b := bref cc0_scratch2 L) rfl
  have m3 : bref cc0_scratch3 L ∈ ownRefs (τ := τ) (.scVector (cV L) (jV L)) := SparseCore.Cfg.mem_ownRefs_of_owner (p := Proc.scVector (cV L) (jV L)) (b := bref cc0_scratch3 L) rfl
  have ne : ∀ {b b' : Ref sig .scVector}, b ≠ b' → bref b L ≠ bref b' L := fun h e => h (Proc.devRef_injective _ e)
  have e1 := Finset.mem_erase.mpr ⟨ne (show (cc0_scratch1 : Ref sig .scVector) ≠ cc0_scratch0 by decide), m1⟩
  have e2 := Finset.mem_erase.mpr ⟨ne (show (cc0_scratch2 : Ref sig .scVector) ≠ cc0_scratch1 by decide), Finset.mem_erase.mpr ⟨ne (show (cc0_scratch2 : Ref sig .scVector) ≠ cc0_scratch0 by decide), m2⟩⟩
  have e3 := Finset.mem_erase.mpr ⟨ne (show (cc0_scratch3 : Ref sig .scVector) ≠ cc0_scratch2 by decide),
    Finset.mem_erase.mpr ⟨ne (show (cc0_scratch3 : Ref sig .scVector) ≠ cc0_scratch1 by decide), Finset.mem_erase.mpr ⟨ne (show (cc0_scratch3 : Ref sig .scVector) ≠ cc0_scratch0 by decide), m3⟩⟩⟩
  refine (SparseCore.bigSep_erase' m0).trans ?_
  rw [SparseCore.bigSep_erase' e1, SparseCore.bigSep_erase' e2, SparseCore.bigSep_erase' e3]

/-- The outer loop's invariant. -/
def inv (qx : PosShare TreeShare) (xt : S832x16384.Idx → Elt F .f32) (W0 W1 : S130.Idx → Elt F .f32) (g : S832x16384.Idx → Elt F .f32)
    (O : CellTallies nD τ sig (HIx 1)) (W : Waits sig (HIx 1)) (k : ℕ) (_ : PUnit) : sProp 𝕄 :=
  iprop(Transfers.MayWaits (V d (cV L) (jV L)) (none : HIx 1) O
    ∗ ((xV).view.loc (V d (cV L) (jV L)) ↦{qx} xt)
    ∗ (oLoc d ↦[colSet (wL L)]{fullShare} outK g (OUT xt W0 W1) k)
    ∗ (∃ A H, own d L ⟨A, H, W0, W1⟩)
    ∗ semVal (cell cc0_scoped4 d L) 0 ∗ semVal (cell cc0_scoped5 d L) 0
    ∗ ∃ W', ⌜∀ p ∈ W', p ∈ W ∨ p.2 = none⌝ ∗ owes (V d (cV L) (jV L)) O W')

omit [FloatOps F] in
theorem set_oK (t : Fin k0_t1_loop.trips) : (oK L t).view.set = (chK L t).set := by
  show ((oV).view.slice (chK L t)).set = _
  rw [View.set_slice]; exact Finset.map_refl

theorem trips1 : k0_t1_loop.trips = 4 := rfl

omit [FloatOps F] in
/-- Chunk `t` of the tile, as a set of columns. -/
theorem mem_oK (t : Fin k0_t1_loop.trips) (x : S832x16384.Idx) :
    x ∈ (oK L t).view.set ↔ (x 1).val / 512 = (wL L).val ∧ (x 1).val % 512 / 128 = t.val := by
  have ht : t.val < 4 := t.isLt
  have hw : (wL L).val = (L 1).val * 2 + (L 0).val := rfl
  rw [set_oK, Rect.mem_set_unit, k0_off2_eq]
  constructor
  · intro h
    have h1 : 1024 * (L 1).val + 512 * (L 0).val + 128 * t.val ≤ (x 1).val ∧ (x 1).val < 1024 * (L 1).val + 512 * (L 0).val + 128 * t.val + 128 := h 1
    omega
  · intro h a
    match a with
    | 0 => exact ⟨Nat.zero_le _, by have : (x 0).val < 832 := (x 0).isLt; show (x 0).val < 0 + 832; omega⟩
    | 1 => show 1024 * (L 1).val + 512 * (L 0).val + 128 * t.val ≤ (x 1).val ∧ (x 1).val < 1024 * (L 1).val + 512 * (L 0).val + 128 * t.val + 128; omega

omit [FloatOps F] in
theorem oK_sub (t : Fin k0_t1_loop.trips) : (oK L t).view.set ⊆ colSet (wL L) :=
  fun x hx => (mem_colSet _ x).mpr ((mem_oK L t x).mp hx).1

abbrev qn (L : grid0.Coords) (t : ℕ) : ℕ := (wL L).val * 4 + t

omit [FloatOps F] in
/-- What the fetch reads. -/
theorem read_xK (t : Fin k0_t1_loop.trips) (xt : S832x16384.Idx → Elt F .f32) : View.read (Elt F) (xK L t).view xt = chunk xt (qn L t.val) := by
  funext y
  show xt ((chK L t).emb y) = _
  unfold chunk
  congr 1
  funext a
  have ht : t.val < 4 := t.isLt
  have hw : (wL L).val = (L 1).val * 2 + (L 0).val := rfl
  have h0 : (L 0).val < 2 := (L 0).isLt
  have h1 : (L 1).val < 16 := (L 1).isLt
  apply Fin.ext
  match a with
  | 0 =>
    show k0_off2 L t 0 + 1 * (y 0).val = (y 0).val
    rw [k0_off2_eq]; show 0 + 1 * (y 0).val = (y 0).val; omega
  | 1 =>
    show k0_off2 L t 1 + 1 * (y 1).val = (qn L t.val * 128 + (y 1).val) % 16384
    have hy : (y 1).val < 128 := (y 1).isLt
    rw [k0_off2_eq]; show 1024 * (L 1).val + 512 * (L 0).val + 128 * t.val + 1 * (y 1).val = (qn L t.val * 128 + (y 1).val) % 16384
    unfold qn; omega

omit [FloatOps F] in
theorem read_oK (t : Fin k0_t1_loop.trips) (o : S832x16384.Idx → Elt F .f32) : View.read (Elt F) (oK L t).view o = chunk o (qn L t.val) :=
  read_xK L t o

/-- A chunk of the result is the inner loop's value on that chunk. -/
theorem chunk_OUT (xt : S832x16384.Idx → Elt F .f32) (W0 W1 : S130.Idx → Elt F .f32) (q : ℕ) (hq : q < 128) :
    chunk (OUT xt W0 W1) q = chk (chunk xt q) W0 W1 256 := by
  funext y
  have hy : (y 1).val < 128 := (y 1).isLt
  unfold chunk OUT
  have e : ((q * 128 + (y 1).val) % 16384) / 128 = q := by omega
  have e' : ((q * 128 + (y 1).val) % 16384) % 128 = (y 1).val := by omega
  show chk (chunk xt (((q * 128 + (y 1).val) % 16384) / 128)) W0 W1 256 _ = _
  rw [e]
  congr 1
  funext a
  match a with
  | 0 => rfl
  | 1 => exact Fin.ext e'

/-- Written out, the chunk holds the result. -/
theorem out_lands (t : Fin k0_t1_loop.trips) (c o : S832x16384.Idx → Elt F .f32)
    (h : View.read (Elt F) (oK L t).view c = chunk o (qn L t.val)) : ∀ x ∈ (oK L t).view.set, c x = o x := by
  intro x hx
  obtain ⟨y, -, rfl⟩ := Finset.mem_map.mp hx
  exact congrFun (h.trans (read_oK L t o).symm) y

set_option maxHeartbeats 4000000 in
/-- One trip of the outer loop. -/
theorem trip (qx : PosShare TreeShare) (xt : S832x16384.Idx → Elt F .f32) (W0 W1 : S130.Idx → Elt F .f32) (g : S832x16384.Idx → Elt F .f32)
    (O : CellTallies nD τ sig (HIx 1)) (W : Waits sig (HIx 1)) (k : Fin k0_t1_loop.trips) (u : PUnit) :
    inv (F := F) d L qx xt W0 W1 g O W k.val u ⊢ wp frame (wpE (defs₀ (F := F)) 𝒱₀ (V d (cV L) (jV L)) none) Set.univ
      (k0_t1_body L xV (Memref.isWhole_whole _) aV (Memref.isWhole_whole _) cV' (Memref.isWhole_whole _) oV (Memref.isWhole_whole _)
            bV (Memref.isWhole_whole _) hV (Memref.isWhole_whole _) uV (Memref.isWhole_whole _) wV (Memref.isWhole_whole _)
            s0V (Memref.isWhole_whole _) s1V (Memref.isWhole_whole _) cc0_scoped0 cc0_scoped1 cc0_scoped2 cc0_scoped3 cc0_scoped4 cc0_scoped5 k ())
      (fun u => inv (F := F) d L qx xt W0 W1 g O W (k.val + 1) u) := by
  unfold inv own
  iintro ⟨#Hmw, Hx, Ho, ⟨%A, %H, Hb, Hh, Hu, Hw⟩, Hm4, Hm5, %W', %hW', HO⟩
  ihave Ho := (pointsTo_split_subset (q := fullShare) (f := outK g (OUT xt W0 W1) k.val) (oK_sub L k)).1 $$ Ho
  icases Ho with ⟨Ho, Hrest⟩
  ihave Ho := (Entails.of_eq (show (oLoc d ↦[(oK L k).view.set]{fullShare} outK g (OUT xt W0 W1) k.val : sProp 𝕄)
    = ((oK L k).view.loc (V d (cV L) (jV L)) ↦[(oK L k).view.set]{fullShare} outK g (OUT xt W0 W1) k.val) from rfl)) $$ Ho
  unfold k0_t1_body
  sl_exec
  have hq : qn L k.val < 128 := by
    have h0 : (L 0).val < 2 := (L 0).isLt
    have h1 : (L 1).val < 16 := (L 1).isLt
    have ht : k.val < 4 := k.isLt
    have hw : (wL L).val = (L 1).val * 2 + (L 0).val := rfl
    unfold qn; omega
  have hval : View.write (Elt F) (bV).view A (trip.sl.dma0 L xt k) Finset.univ = chunk xt (qn L k.val) :=
    (View.write_whole_univ _ _ _).trans (read_xK L k xt)
  ihave Hown : own d L ⟨chunk xt (qn L k.val), H, W0, W1⟩ $$ [Hb Hh Hu Hw]
  · unfold own
    rw [← hval]
    isplitl [Hb]; · iexact Hb
    isplitl [Hh]; · iexact Hh
    isplitl [Hu]; · iexact Hu
    iexact Hw
  iapply ((inner_runs (d := d) (L := L) (chunk xt (qn L k.val)) H W0 W1).frame _) $$ Hown
  iintro %v %s' %hs Hown
  obtain ⟨H', rfl⟩ := hs
  unfold own
  icases Hown with ⟨Hb, Hh, Hu, Hw⟩
  sl_exec
  sl_step
  have hdma : (trip.sl.dma0_1 L xt W0 W1 k) = chunk (OUT xt W0 W1) (qn L k.val) := (chunk_OUT xt W0 W1 _ hq).symm
  have hnew : ∀ x ∈ (oK L k).view.set, (oK L k).view.writes (Elt F) (outK g (OUT xt W0 W1) k.val) [⟨Rect.whole S832x128, trip.sl.dma0_1 L xt W0 W1 k⟩] x
      = outK g (OUT xt W0 W1) (k.val + 1) x := by
    intro x hx
    rw [out_lands L k _ (OUT xt W0 W1) ((View.read_writes_whole _ _ _).trans hdma) x hx]
    unfold outK
    rw [if_pos (by rw [((mem_oK L k x).mp hx).2]; omega)]
  have hold : ∀ x ∈ colSet (wL L) \ (oK L k).view.set, outK g (OUT xt W0 W1) k.val x = outK g (OUT xt W0 W1) (k.val + 1) x := by
    intro x hx
    obtain ⟨hx1, hx2⟩ := Finset.mem_sdiff.mp hx
    have hne : ¬ (x 1).val % 512 / 128 = k.val := fun e => hx2 ((mem_oK L k x).mpr ⟨(mem_colSet _ x).mp hx1, e⟩)
    unfold outK
    by_cases h : (x 1).val % 512 / 128 < k.val
    · rw [if_pos h, if_pos (by omega)]
    · rw [if_neg h, if_neg (by omega)]
  ihave Ho := (Entails.of_eq (pointsTo_congr hnew)) $$ Ho
  ihave Hrest := (Entails.of_eq (pointsTo_congr hold)) $$ Hrest
  ihave Ho := (pointsTo_split_subset (ℓ := oLoc d) (q := fullShare) (f := outK g (OUT xt W0 W1) (k.val + 1)) (oK_sub L k)).2 $$ [Ho Hrest]
  · isplitl [Ho]; · iexact Ho
    iexact Hrest
  isplitr; · iexact Hmw
  isplitl [Hx]; · iexact Hx
  isplitl [Ho]; · iexact Ho
  isplitl [Hb Hh Hu Hw]
  · iexists _, _
    isplitl [Hb]; · iexact Hb
    isplitl [Hh]; · iexact Hh
    isplitl [Hu]; · iexact Hu
    iexact Hw
  isplitl [Hm4]; · iexact Hm4
  isplitl [Hm5]; · iexact Hm5
  iexists (insert (SemLoc.dma ⟨5, by decide⟩, default) (insert (SemLoc.dma ⟨4, by decide⟩, default) W'))
  isplitr
  · ipureintro
    intro p hp
    rcases Finset.mem_insert.mp hp with rfl | hp
    · exact Or.inr rfl
    rcases Finset.mem_insert.mp hp with rfl | hp
    · exact Or.inr rfl
    exact hW' p hp
  iexact HO

omit [FloatOps F] in
/-- The first `0` chunks: none; the first four: all of the tile's columns. -/
theorem outK_zero (g o : S832x16384.Idx → Elt F .f32) : outK g o 0 = g := by
  funext x; unfold outK; rw [if_neg (Nat.not_lt_zero _)]
omit [FloatOps F] in
theorem outK_four (g o : S832x16384.Idx → Elt F .f32) : outK g o 4 = o := by
  funext x; unfold outK; rw [if_pos (by omega)]

set_option maxHeartbeats 4000000 in
/-- The task on vector subcore `(L 0, L 1)` of device `d`. -/
theorem tile_body (hF : (K (F := F)).Facts) (qx qa qc : PosShare TreeShare) (xt g : S832x16384.Idx → Elt F .f32) (W0 W1 : S130.Idx → Elt F .f32)
    (O : CellTallies nD τ sig (HIx 1)) (W : Waits sig (HIx 1)) (hO : ∀ g, O g none = 0) :
    (iprop(levAts (K (F := F)).L (K (F := F)).lev ∗ emp ∗ (ops (F := F) d (wL L) qx qa qc xt W0 W1 g ∗ shRows (F := F) d (cV L) (jL L))
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__gnn L xV (Memref.isWhole_whole _) aV (Memref.isWhole_whole _) cV' (Memref.isWhole_whole _) oV (Memref.isWhole_whole _)
            bV (Memref.isWhole_whole _) hV (Memref.isWhole_whole _) uV (Memref.isWhole_whole _) wV (Memref.isWhole_whole _)
            s0V (Memref.isWhole_whole _) s1V (Memref.isWhole_whole _) cc0_scoped0 cc0_scoped1 cc0_scoped2 cc0_scoped3 cc0_scoped4 cc0_scoped5)
          fun _ => iprop((ops (F := F) d (wL L) qx qa qc xt W0 W1 (OUT xt W0 W1) ∗ shRows (F := F) d (cV L) (jL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__gnn_eq_skeleton]; unfold cc0__gnn_skel
  rw [(K (F := F)).scopedBufs_V hF d (cV L) (jV L), SparseCore.Cfg.scopedSems0_V (Val := Elt F) d (cV L) (jV L), ownSems0_V, ownBufs_V]
  iintro ⟨#Hlv, -, ⟨⟨Hx, Ha, Hc, Ho⟩, ⟨%f0, Hs0⟩, ⟨%f1, Hs1⟩⟩, ⟨⟨%fb, Hb⟩, ⟨%fh, Hh⟩, ⟨%fu, Hu⟩, ⟨%fw, Hw⟩, Hbufs⟩, ⟨Hm0, Hm1, Hm2, Hm3, Hm4, Hm5, Hsems⟩, HO⟩
  ihave Hmw := (show levAts (K (F := F)).L (K (F := F)).lev ⊢ (Transfers.MayWaits (V d (cV L) (jV L)) (none : HIx 1) O : sProp 𝕄) from
    (K (F := F)).mayWaits_none (thr := V d (cV L) (jV L)) hO) $$ Hlv
  ihave Hx' := (Entails.of_eq (show (xLoc d ↦{qx} xt : sProp 𝕄) = ((xV).view.loc (V d (cV L) (jV L)) ↦{qx} xt) from rfl)) $$ Hx
  ihave Ha' := (Entails.of_eq (show (aLoc d ↦{qa} W0 : sProp 𝕄) = ((aV).view.loc (V d (cV L) (jV L)) ↦{qa} W0) from rfl)) $$ Ha
  ihave Hc' := (Entails.of_eq (show (cLoc d ↦{qc} W1 : sProp 𝕄) = ((cV').view.loc (V d (cV L) (jV L)) ↦{qc} W1) from rfl)) $$ Hc
  ihave Hs0' := (Entails.of_eq (pts_s0K (F := F) d L _).symm) $$ Hs0
  ihave Hs1' := (Entails.of_eq (pts_s1K (F := F) d L _).symm) $$ Hs1
  ihave Hu' := (Entails.of_eq (show ((V d (cV L) (jV L)).loc cc0_scratch2 ↦{fullShare} fu : sProp 𝕄) = ((uV).view.loc (V d (cV L) (jV L)) ↦{fullShare} fu) from rfl)) $$ Hu
  ihave Hw' := (Entails.of_eq (show ((V d (cV L) (jV L)).loc cc0_scratch3 ↦{fullShare} fw : sProp 𝕄) = ((wV).view.loc (V d (cV L) (jV L)) ↦{fullShare} fw) from rfl)) $$ Hw
  sl_exec
  have hu : View.write (Elt F) (uV).view fu (tile_body.sl.dma0_2 d L W0 f0) Finset.univ = W0 :=
    (View.write_whole_univ _ _ _).trans (View.read_writes_whole _ _ _)
  have hw : View.write (Elt F) (wV).view fw (tile_body.sl.dma0_3 d L W1 f1) Finset.univ = W1 :=
    (View.write_whole_univ _ _ _).trans (View.read_writes_whole _ _ _)
  rw [hu, hw]
  sl_for (inv (F := F) d L qx xt W0 W1 g O W) $$ [Hx' Ho Hb Hh Hu' Hw' Hm4 Hm5 HO]
  case region => intro k u; exact trip d L qx xt W0 W1 g O W k u
  · unfold inv own
    rw [outK_zero]
    isplitr; · iexact Hmw
    isplitl [Hx']; · iexact Hx'
    isplitl [Ho]; · iexact Ho
    isplitl [Hb Hh Hu' Hw']
    · iexists fb, fh
      isplitl [Hb]; · iexact Hb
      isplitl [Hh]; · iexact Hh
      isplitl [Hu']; · iexact Hu'
      iexact Hw'
    isplitl [Hm4]; · iexact Hm4
    isplitl [Hm5]; · iexact Hm5
    iexists (insert (SemLoc.dma ⟨3, by decide⟩, default) (insert (SemLoc.dma ⟨2, by decide⟩, default)
      (insert (SemLoc.dma ⟨1, by decide⟩, default) (insert (SemLoc.dma ⟨0, by decide⟩, default) W))))
    isplitr
    · ipureintro
      intro p hp
      rcases Finset.mem_insert.mp hp with rfl | hp
      · exact Or.inr rfl
      rcases Finset.mem_insert.mp hp with rfl | hp
      · exact Or.inr rfl
      rcases Finset.mem_insert.mp hp with rfl | hp
      · exact Or.inr rfl
      rcases Finset.mem_insert.mp hp with rfl | hp
      · exact Or.inr rfl
      exact Or.inl hp
    iexact HO
  iintro %_ HI
  rw [show Scf.trips k0_t1_loop.lb k0_t1_loop.ub k0_t1_loop.st = 4 from rfl]
  unfold inv own
  rw [outK_four]
  icases HI with ⟨-, Hx, Ho, ⟨%A, %H, Hb, Hh, Hu, Hw⟩, Hm4, Hm5, HW⟩
  sl_step
  isplitl [Hx Ho Ha' Hc' Hs0' Hs1']
  · isplitl [Hx Ho Ha' Hc']
    · isplitl [Hx]; · iexact Hx
      isplitl [Ha']; · iexact Ha'
      isplitl [Hc']; · iexact Hc'
      iexact Ho
    isplitl [Hs0']
    · iexists _; iapply (Entails.of_eq (pts_s0K (F := F) d L _)); iexact Hs0'
    iexists _; iapply (Entails.of_eq (pts_s1K (F := F) d L _)); iexact Hs1'
  isplitl [Hb Hh Hu Hw Hbufs]
  · isplitl [Hb]; · iexists A; iexact Hb
    isplitl [Hh]; · iexists H; iexact Hh
    isplitl [Hu]; · iexists W0; iexact Hu
    isplitl [Hw]; · iexists W1; iexact Hw
    iexact Hbufs
  isplitl [Hm0 Hm1 Hm2 Hm3 Hm4 Hm5 Hsems]
  · isplitl [Hm0]; · iexact Hm0
    isplitl [Hm1]; · iexact Hm1
    isplitl [Hm2]; · iexact Hm2
    isplitl [Hm3]; · iexact Hm3
    isplitl [Hm4]; · iexact Hm4
    isplitl [Hm5]; · iexact Hm5
    iexact Hsems
  iexact HW

end Tile

end Cert.Proof.KernelIdeal

end
-- ==== Proof.LaunchIdeal.lean ====
/-
  The launch of the thirty-two tasks, with the value of the result: how the arrays are dealt to the tiles (a share of the
  three inputs each, by halvings, and its own columns of the result), how a SparseCore's shared scratch is dealt row by
  row, and @main around the call: the two re-layouts of the input before it, the transposition of the result after it.
-/
module

public import proofs.«01_k».proof.Defs
public import proofs.«01_k».proof.Proof.TileIdeal
public import Idealize.ShloMosaic.Lib.StableHlo.Run
public import Idealize.ShloMosaic.Lib.Pipeline.Kit

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.StableHlo

variable {F : FTy → Type}

local notation "𝕄" => MT nD τ sig (HIx 1) (Elt F) ℕ UU ℕ
local notation "xV" => (Memref.whole Cert.KernelIdeal.main_v1_scv : Memref Cert.KernelIdeal.sig Kind.scVector Space.hbm Cert.KernelIdeal.S832x16384 EltTy.f32)
local notation "aV" => (Memref.whole Cert.KernelIdeal.main_arg1_scv : Memref Cert.KernelIdeal.sig Kind.scVector Space.hbm Cert.KernelIdeal.S130 EltTy.f32)
local notation "cV'" => (Memref.whole Cert.KernelIdeal.main_arg2_scv : Memref Cert.KernelIdeal.sig Kind.scVector Space.hbm Cert.KernelIdeal.S130 EltTy.f32)
local notation "oV" => (Memref.whole Cert.KernelIdeal.main_v2_scv : Memref Cert.KernelIdeal.sig Kind.scVector Space.hbm Cert.KernelIdeal.S832x16384 EltTy.f32)
local notation "bV" => (Memref.whole Cert.KernelIdeal.cc0_scratch0 : Memref Cert.KernelIdeal.sig Kind.scVector Space.vmem Cert.KernelIdeal.S832x128 EltTy.f32)
local notation "hV" => (Memref.whole Cert.KernelIdeal.cc0_scratch1 : Memref Cert.KernelIdeal.sig Kind.scVector Space.vmem Cert.KernelIdeal.S26x16 EltTy.f32)
local notation "uV" => (Memref.whole Cert.KernelIdeal.cc0_scratch2 : Memref Cert.KernelIdeal.sig Kind.scVector Space.smem Cert.KernelIdeal.S130 EltTy.f32)
local notation "wV" => (Memref.whole Cert.KernelIdeal.cc0_scratch3 : Memref Cert.KernelIdeal.sig Kind.scVector Space.smem Cert.KernelIdeal.S130 EltTy.f32)
local notation "s0V" => (Memref.whole Cert.KernelIdeal.cc0_scratch4 : Memref Cert.KernelIdeal.sig Kind.scVector Space.shared Cert.KernelIdeal.S16x130 EltTy.f32)
local notation "s1V" => (Memref.whole Cert.KernelIdeal.cc0_scratch5 : Memref Cert.KernelIdeal.sig Kind.scVector Space.shared Cert.KernelIdeal.S16x130 EltTy.f32)

variable [FloatOps F] (m : (ℓ : Loc nD τ sig) → Buf (Elt F) ℓ) (ρ : Dev nD → PrngReg)

omit [FloatOps F] in
theorem nSub_zero : (K (F := F)).nSub 0 = 16 := rfl
omit [FloatOps F] in
theorem nCore_zero : (K (F := F)).nCore 0 = 2 := rfl
/-- The SparseCore of the call's core number `c`. -/
abbrev coreOf (c : Fin ((K (F := F)).nCore 0)) : Fin τ.nSC := (K (F := F)).core 0 c

/-! ## @main's arrays -/

abbrev zLoc (d : Dev nD) : Loc nD τ sig := (SparseCore.T d).loc main_arg0
abbrev rLoc (d : Dev nD) : Loc nD τ sig := (SparseCore.T d).loc main_v3

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)

abbrev op1 : HloOp τ sig (Elt F) := StableHlo.unary main_arg0 main_v0 ((transpose S26x32x16384 [1, 2, 0] · transposes_S16384x26x32_S26x32x16384_1_2_0) : (⟨S16384x26x32, .f32⟩ : BufTy).Contents (Elt F) → (⟨S26x32x16384, .f32⟩ : BufTy).Contents (Elt F))
abbrev op2 : HloOp τ sig (Elt F) := StableHlo.reshape main_v0 main_v1 (rfl : (.f32 : EltTy) = .f32) shapeCasts_S26x32x16384_S832x16384
abbrev op3 : HloOp τ sig (Elt F) := StableHlo.unary main_v2 main_v3 ((transpose S16384x832 [1, 0] · transposes_S832x16384_S16384x832_1_0) : (⟨S832x16384, .f32⟩ : BufTy).Contents (Elt F) → (⟨S16384x832, .f32⟩ : BufTy).Contents (Elt F))

/-- What the arrays hold along @main: at the launch, after each re-layout, after the call, after the last transposition. -/
def V0 (d : Dev nD) : Valuation τ sig (Elt F) := fun b => m (d, b)
def V1 (d : Dev nD) : Valuation τ sig (Elt F) := (op1 (F := F)).result (V0 m d)
def V2 (d : Dev nD) : Valuation τ sig (Elt F) := (op2 (F := F)).result (V1 m d)
/-- The kernel's input. -/
def XT (d : Dev nD) : Buf (Elt F) (xLoc d) := V2 m d v1'
/-- The kernel's result. -/
def RES (d : Dev nD) : Buf (Elt F) (oLoc d) := OUT (XT m d) (m (aLoc d)) (m (cLoc d))
def V3 (d : Dev nD) : Valuation τ sig (Elt F) := Function.update (V2 m d) v2' (RES m d)
def V4 (d : Dev nD) : Valuation τ sig (Elt F) := (op3 (F := F)).result (V3 m d)

/-! ## What the handshakes carry -/

/-- The tile's share of an input. -/
abbrev qL (w : Fin 32) : PosShare TreeShare := ShareLeaves.leaf 5 fullShare w
/-- A task's part of the arrays, its columns of the result at `g`. -/
abbrev part (d : Dev nD) (w : Fin 32) (g : Buf (Elt F) (oLoc d)) : sProp 𝕄 :=
  ops (F := F) d w (qL w) (qL w) (qL w) (XT m d) (m (aLoc d)) (m (cLoc d)) g
/-- A SparseCore's. -/
abbrev parts (d : Dev nD) (c : Fin 2) (g : Buf (Elt F) (oLoc d)) : sProp 𝕄 :=
  bigSep Finset.univ fun i : Fin 16 => part m d (wid c i) g

set_option backward.proofsInPublic true in
def P : (K (F := F)).Pay (nD := nD) (Val := Elt F) (Name := ℕ) (U := UU) where
  st := fun q d c => match q with | 0 => parts m d (Fin.cast nCore_zero c) (m (oLoc d))
  dn := fun q d c => match q with | 0 => parts m d (Fin.cast nCore_zero c) (RES m d)
  go := fun q d c i => match q with
    | 0 => iprop(part m d (wid (Fin.cast nCore_zero c) (Fin.cast nSub_zero i)) (m (oLoc d)) ∗ shRows (F := F) d (coreOf c) (Fin.cast nSub_zero i))
  td := fun q d c i => match q with
    | 0 => iprop(part m d (wid (Fin.cast nCore_zero c) (Fin.cast nSub_zero i)) (RES m d) ∗ shRows (F := F) d (coreOf c) (Fin.cast nSub_zero i))
  x := fun _ _ => iprop(emp)

instance P_storable : (P (F := F) m).IsStorable where
  st q d c := match q with
    | 0 => (inferInstance : BI.Storable (upEmb : UEmb _ 𝕄) (parts m d (Fin.cast nCore_zero c) (m (oLoc d))))
  dn q d c := match q with
    | 0 => (inferInstance : BI.Storable (upEmb : UEmb _ 𝕄) (parts m d (Fin.cast nCore_zero c) (RES m d)))
  go q d c i := match q with
    | 0 => (inferInstance : BI.Storable (upEmb : UEmb _ 𝕄)
      iprop(part m d (wid (Fin.cast nCore_zero c) (Fin.cast nSub_zero i)) (m (oLoc d)) ∗ shRows (F := F) d (coreOf c) (Fin.cast nSub_zero i)))
  td q d c i := match q with
    | 0 => (inferInstance : BI.Storable (upEmb : UEmb _ 𝕄)
      iprop(part m d (wid (Fin.cast nCore_zero c) (Fin.cast nSub_zero i)) (RES m d) ∗ shRows (F := F) d (coreOf c) (Fin.cast nSub_zero i)))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gnn (coordsV c s)
          xV (Memref.isWhole_whole _) aV (Memref.isWhole_whole _) cV' (Memref.isWhole_whole _) oV (Memref.isWhole_whole _)
            bV (Memref.isWhole_whole _) hV (Memref.isWhole_whole _) uV (Memref.isWhole_whole _) wV (Memref.isWhole_whole _)
            s0V (Memref.isWhole_whole _) s1V (Memref.isWhole_whole _) cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF _ _ _ (XT m d) (m (oLoc d)) (m (aLoc d)) (m (cLoc d)) O W hO).trans (wp_mono frame _ _ fun _ => obl_post)

/-! ## A SparseCore's split -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem rows_disjoint : ∀ i ∈ (Finset.univ : Finset (Fin 16)), ∀ j ∈ (Finset.univ : Finset (Fin 16)), i ≠ j → Disjoint (rowSet i) (rowSet j) :=
  fun _ _ _ _ h => Rect.part_disjoint hdivS h
omit [FloatOps F] in
theorem rows_cover : (Finset.univ : Finset (Fin 16)).biUnion rowSet = Finset.univ := Rect.biUnion_part hdivS

omit [FloatOps F] in
/-- A shared scratch whole is its rows, each at some contents, -/
theorem sh0_rows (d : Dev nD) (c : Fin τ.nSC) (f : Buf (Elt F) (sh0Loc d c)) :
    (sh0Loc d c ↦{fullShare} f : sProp 𝕄) ⊢ bigSep Finset.univ fun i : Fin 16 => iprop(∃ f, sh0Pts (F := F) d c i f) := by
  have h : (sh0Loc d c ↦{fullShare} f : sProp 𝕄) = bigSep Finset.univ fun i : Fin 16 => sh0Pts (F := F) d c i f := by
    unfold sh0Pts
    rw [← pointsTo_biUnion Finset.univ (ℓ := sh0Loc d c) rowSet rows_disjoint, rows_cover]; try rfl
  exact (Entails.of_eq h).trans (SparseCore.ent (bigSep_mono fun i _ => BI.BIClass.exists_intro (Φ := fun f => sh0Pts (F := F) d c i f) f))
omit [FloatOps F] in
theorem sh1_rows (d : Dev nD) (c : Fin τ.nSC) (f : Buf (Elt F) (sh1Loc d c)) :
    (sh1Loc d c ↦{fullShare} f : sProp 𝕄) ⊢ bigSep Finset.univ fun i : Fin 16 => iprop(∃ f, sh1Pts (F := F) d c i f) := by
  have h : (sh1Loc d c ↦{fullShare} f : sProp 𝕄) = bigSep Finset.univ fun i : Fin 16 => sh1Pts (F := F) d c i f := by
    unfold sh1Pts
    rw [← pointsTo_biUnion Finset.univ (ℓ := sh1Loc d c) rowSet rows_disjoint, rows_cover]; try rfl
  exact (Entails.of_eq h).trans (SparseCore.ent (bigSep_mono fun i _ => BI.BIClass.exists_intro (Φ := fun f => sh1Pts (F := F) d c i f) f))
omit [FloatOps F] in
/-- and back. -/
theorem sh0_join [∀ e, Nonempty (Elt F e)] (d : Dev nD) (c : Fin τ.nSC) :
    (bigSep Finset.univ fun i : Fin 16 => iprop(∃ f, sh0Pts (F := F) d c i f)) ⊢ (iprop(∃ f, sh0Loc d c ↦{fullShare} f) : sProp 𝕄) := by
  refine (bigSep_exists_pi Finset.univ (fun i (f : Buf (Elt F) (sh0Loc d c)) => sh0Pts (F := F) d c i f)).trans ?_
  iintro ⟨%fs, H⟩
  ihave H' := (pointsTo_biUnion_join Finset.univ rowSet fs (fs 0) rows_disjoint) $$ H
  icases H' with ⟨%g, -, Hg⟩
  rw [rows_cover]
  iexists g; iexact Hg
omit [FloatOps F] in
theorem sh1_join [∀ e, Nonempty (Elt F e)] (d : Dev nD) (c : Fin τ.nSC) :
    (bigSep Finset.univ fun i : Fin 16 => iprop(∃ f, sh1Pts (F := F) d c i f)) ⊢ (iprop(∃ f, sh1Loc d c ↦{fullShare} f) : sProp 𝕄) := by
  refine (bigSep_exists_pi Finset.univ (fun i (f : Buf (Elt F) (sh1Loc d c)) => sh1Pts (F := F) d c i f)).trans ?_
  iintro ⟨%fs, H⟩
  ihave H' := (pointsTo_biUnion_join Finset.univ rowSet fs (fs 0) rows_disjoint) $$ H
  icases H' with ⟨%g, -, Hg⟩
  rw [rows_cover]
  iexists g; iexact Hg

omit [FloatOps F] in
/-- The two shared scratch buffers are among the sequencer's own. -/
theorem ownBufs_S (d : Dev nD) (c : Fin τ.nSC) :
    (ownBufs (S d c) : sProp 𝕄)
      = iprop((∃ f, sh0Loc d c ↦{fullShare} f) ∗ (∃ f, sh1Loc d c ↦{fullShare} f)
          ∗ bigSep (((ownRefs (τ := τ) (.scScalar c)).erase (sh0Ref c)).erase (sh1Ref c)) fun b => iprop(∃ f, ((d, b) : Loc nD τ sig) ↦{fullShare} f)) := by
  unfold SparseCore.Cfg.ownBufs
  have h0 : sh0Ref c ∈ ownRefs (τ := τ) (sig := sig) (.scScalar c) := (mem_ownRefs (p := Proc.scScalar c) (b := sh0Ref c)).mpr rfl
  have h1 : sh1Ref c ∈ ownRefs (τ := τ) (sig := sig) (.scScalar c) := (mem_ownRefs (p := Proc.scScalar c) (b := sh1Ref c)).mpr rfl
  have hne : sh1Ref c ≠ sh0Ref c := fun e => by simp at e
  refine (SparseCore.bigSep_erase' h0).trans ?_
  rw [SparseCore.bigSep_erase' (Finset.mem_erase.mpr ⟨hne, h1⟩)]

theorem vecSplit [∀ e, Nonempty (Elt F e)] : (K (F := F)).VecSplit (P m) 0 := by
  intro d c
  show iprop(parts m d (Fin.cast nCore_zero c) (m (oLoc d)) ∗ ownBufs (S d (coreOf c))) ⊢ |={Set.univ}=> iprop(
      (bigSep Finset.univ fun i : Fin ((K (F := F)).nSub 0) => iprop(part m d (wid (Fin.cast nCore_zero c) (Fin.cast nSub_zero i)) (m (oLoc d)) ∗ shRows (F := F) d (coreOf c) (Fin.cast nSub_zero i)))
      ∗ ((bigSep Finset.univ fun i : Fin ((K (F := F)).nSub 0) => iprop(part m d (wid (Fin.cast nCore_zero c) (Fin.cast nSub_zero i)) (RES m d) ∗ shRows (F := F) d (coreOf c) (Fin.cast nSub_zero i)))
          -∗ iprop(parts m d (Fin.cast nCore_zero c) (RES m d) ∗ ownBufs (S d (coreOf c)))))
  rw [bigSep_tasks (F := F) (fun i => iprop(part m d (wid (Fin.cast nCore_zero c) i) (m (oLoc d)) ∗ shRows (F := F) d (coreOf c) i)),
    bigSep_tasks (F := F) (fun i => iprop(part m d (wid (Fin.cast nCore_zero c) i) (RES m d) ∗ shRows (F := F) d (coreOf c) i)),
    bigSep_sep' Finset.univ (fun i => part m d (wid (Fin.cast nCore_zero c) i) (m (oLoc d))) (fun i => shRows (F := F) d (coreOf c) i),
    bigSep_sep' Finset.univ (fun i => part m d (wid (Fin.cast nCore_zero c) i) (RES m d)) (fun i => shRows (F := F) d (coreOf c) i),
    bigSep_sep' Finset.univ (fun i => iprop(∃ f, sh0Pts (F := F) d (coreOf c) i f)) (fun i => iprop(∃ f, sh1Pts (F := F) d (coreOf c) i f)), ownBufs_S]
  iintro ⟨Hp, ⟨%f0, H0⟩, ⟨%f1, H1⟩, Hrest⟩; imodintro
  isplitl [Hp H0 H1]
  · isplitl [Hp]; · iexact Hp
    isplitl [H0]; · iapply (sh0_rows d (coreOf c) f0); iexact H0
    iapply (sh1_rows d (coreOf c) f1); iexact H1
  iintro ⟨Hp, H0, H1⟩
  isplitl [Hp]; · iexact Hp
  isplitl [H0]; · iapply (sh0_join d (coreOf c)); iexact H0
  isplitl [H1]; · iapply (sh1_join d (coreOf c)); iexact H1
  iexact Hrest

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays dealt to the thirty-two tiles -/

/-- The tiles, by SparseCore and number. -/
def widE : Fin 2 × Fin 16 ≃ Fin 32 where
  toFun p := wid p.1 p.2
  invFun w := (⟨w.val % 2, by omega⟩, ⟨w.val / 2, by omega⟩)
  left_inv p := by
    obtain ⟨⟨c, hc⟩, ⟨i, hi⟩⟩ := p
    simp only [Prod.mk.injEq, Fin.mk.injEq]
    omega
  right_inv w := Fin.ext (by simp only []; omega)

omit [FloatOps F] in
theorem bigSep_tiles (Φ : Fin 32 → sProp 𝕄) :
    bigSep Finset.univ Φ = bigSep Finset.univ fun c : Fin ((K (F := F)).nCore 0) => bigSep Finset.univ fun i : Fin 16 => Φ (wid (Fin.cast nCore_zero c) i) := by
  rw [bigSep_univ_equiv widE, bigSep_univ_prod]
  exact bigSep_congr fun _ _ => rfl

omit [FloatOps F] in
theorem cols_disjoint : ∀ i ∈ (Finset.univ : Finset (Fin 32)), ∀ j ∈ (Finset.univ : Finset (Fin 32)), i ≠ j → Disjoint (colSet i) (colSet j) :=
  fun _ _ _ _ h => Rect.part_disjoint hdivO h
omit [FloatOps F] in
theorem cols_cover : (Finset.univ : Finset (Fin 32)).biUnion colSet = Finset.univ := Rect.biUnion_part hdivO

omit [FloatOps F] in
theorem oPts_cols (d : Dev nD) (g : Buf (Elt F) (oLoc d)) :
    (oLoc d ↦{fullShare} g : sProp 𝕄) = bigSep Finset.univ fun w : Fin 32 => oLoc d ↦[colSet w]{fullShare} g := by
  rw [← pointsTo_biUnion Finset.univ (ℓ := oLoc d) colSet cols_disjoint, cols_cover]; try rfl

/-- The four arrays whole are the thirty-two tiles' parts. -/
theorem whole_parts (d : Dev nD) (g : Buf (Elt F) (oLoc d)) :
    (iprop((xLoc d ↦{fullShare} XT m d) ∗ (aLoc d ↦{fullShare} m (aLoc d)) ∗ (cLoc d ↦{fullShare} m (cLoc d)) ∗ oLoc d ↦{fullShare} g) : sProp 𝕄)
      = bigSep Finset.univ fun c : Fin ((K (F := F)).nCore 0) => parts m d (Fin.cast nCore_zero c) g := by
  unfold parts
  rw [← bigSep_tiles (F := F) (fun w => part m d w g)]
  unfold part ops
  rw [bigSep_sep', bigSep_sep', bigSep_sep', oPts_cols,
    ShareLeaves.pointsTo_leaves (ℓ := xLoc d) Finset.univ (XT m d) 5 fullShare,
    ShareLeaves.pointsTo_leaves (ℓ := aLoc d) Finset.univ (m (aLoc d)) 5 fullShare,
    ShareLeaves.pointsTo_leaves (ℓ := cLoc d) Finset.univ (m (cLoc d)) 5 fullShare]
  rfl

/-! ## @main on the TensorCore -/

/-- The TensorCore's arrays, all unscoped. -/
abbrev S7 : Finset (DevRef τ sig) := {a0', a1', a2', v0', v1', v2', v3'}

omit [FloatOps F] in
theorem held_S7 (d : Dev nD) (W : Valuation τ sig (Elt F)) :
    (held (T d) S7 W : sProp 𝕄) = iprop((zLoc d ↦{fullShare} W a0') ∗ (aLoc d ↦{fullShare} W a1') ∗ (cLoc d ↦{fullShare} W a2')
      ∗ ((SparseCore.T d).loc main_v0 ↦{fullShare} W v0') ∗ (xLoc d ↦{fullShare} W v1') ∗ (oLoc d ↦{fullShare} W v2') ∗ rLoc d ↦{fullShare} W v3') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((zLoc d ↦{fullShare} W main_arg0) ∗ (aLoc d ↦{fullShare} W main_arg1) ∗ (cLoc d ↦{fullShare} W main_arg2)
      ∗ ((SparseCore.T d).loc main_v0 ↦{fullShare} W main_v0) ∗ (xLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (T d) S7 (V0 m d) := by
  rw [unscopedBufs_eq, held_S7]; rfl

theorem V2_ne (d : Dev nD) {r : Ref sig .tc} (h0 : r ≠ main_v0) (h1 : r ≠ main_v1) : V2 m d (Proc.devRef .tc r) = m (d, Proc.devRef .tc r) := by
  unfold V2 V1
  rw [StableHlo.reshape_result_ne _ _ _ _ _ (h := h1), StableHlo.unary_result_ne _ _ _ _ (h := h0)]; rfl
theorem V3_ne (d : Dev nD) {b : DevRef τ sig} (h : b ≠ v2') : V3 m d b = V2 m d b := Function.update_of_ne h _ _
theorem V3_self (d : Dev nD) : V3 m d v2' = RES m d := Function.update_self _ _ _
theorem V4_ne (d : Dev nD) {r : Ref sig .tc} (h : r ≠ main_v3) : V4 m d (Proc.devRef .tc r) = V3 m d (Proc.devRef .tc r) := by
  unfold V4
  rw [StableHlo.unary_result_ne _ _ _ _ (h := h)]

theorem h1 : (op1 (F := F)).bufs ⊆ S7 := show ({a0', v0'} : Finset (DevRef τ sig)) ⊆ S7 by decide
theorem h2 : (op2 (F := F)).bufs ⊆ S7 := show ({v0', v1'} : Finset (DevRef τ sig)) ⊆ S7 by decide
theorem h3 : (op3 (F := F)).bufs ⊆ S7 := show ({v2', v3'} : Finset (DevRef τ sig)) ⊆ S7 by decide

/-- What @main returns. -/
def RET (d : Dev nD) : Buf (Elt F) (rLoc d) := V4 m d v3'

/-- What @main leaves the claim: the arguments at their launch contents, the result at its value. -/
abbrev FIN (d : Dev nD) : sProp 𝕄 :=
  iprop((zLoc d ↦{fullShare} m (zLoc d)) ∗ (aLoc d ↦{fullShare} m (aLoc d)) ∗ (cLoc d ↦{fullShare} m (cLoc d))
    ∗ rLoc d ↦{fullShare} RET m d)

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op1) (S := S7) h1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) h2 (V := V1 m d)) $$ [Hb Hheld]
  · isplitl [Hb]; · iexact Hb
    iexact Hheld
  iintro ⟨Hb, Hheld⟩
  rw [wp_ret]; imodintro
  ihave Hh := (Entails.of_eq ((show (held (T d) S7 ((op2 (F := F)).result (V1 m d)) : sProp 𝕄) = held (T d) S7 (V2 m d) from rfl).trans (held_S7 (F := F) d (V2 m d)))) $$ Hheld
  icases Hh with ⟨H0, Ha, Hc, Hv0, Hx, Ho, Hv3⟩
  rw [V2_ne m d (r := main_arg1) (by decide) (by decide), V2_ne m d (r := main_arg2) (by decide) (by decide), V2_ne m d (r := main_v2) (by decide) (by decide)]
  iapply ((K (F := F)).wp_run (D (F := F)) 𝒱 (EH := EH) (P := P m) κ d 0) $$ [Hst Ha Hc Hx Ho Hb Hts H0 Hv0 Hv3]
  isplitr; · iexact Hctx
  isplitl [Hst]; · iexact Hst
  isplitl [Ha Hc Hx Ho]
  · iapply (Entails.of_eq (whole_parts m d (m (oLoc d))))
    isplitl [Hx]; · iexact Hx
    isplitl [Ha]; · iexact Ha
    isplitl [Hc]; · iexact Hc
    iexact Ho
  iintro ⟨Hst, Hdn⟩
  ihave Hdn' := (Entails.of_eq ((show (bigSep Finset.univ fun c : Fin ((K (F := F)).nCore 0) => (P m).dn 0 d c) = bigSep Finset.univ fun c : Fin ((K (F := F)).nCore 0) => parts m d (Fin.cast nCore_zero c) (RES m d) from rfl).trans (whole_parts m d (RES m d)).symm)) $$ Hdn
  icases Hdn' with ⟨Hx, Ha, Hc, Ho⟩
  iapply (wp_hlo_within 𝒱 (SparseCore.T d) none Set.univ (op := op3) (S := S7) h3 (V := V3 m d)) $$ [Hb H0 Ha Hc Hv0 Hx Ho Hv3]
  · isplitl [Hb]; · iexact Hb
    rw [held_S7, V3_ne m d (b := a0') (by decide), V3_ne m d (b := a1') (by decide), V3_ne m d (b := a2') (by decide), V3_ne m d (b := v0') (by decide),
      V3_ne m d (b := v1') (by decide), V3_ne m d (b := v3') (by decide), V3_self,
      V2_ne m d (r := main_arg1) (by decide) (by decide), V2_ne m d (r := main_arg2) (by decide) (by decide)]
    isplitl [H0]; · iexact H0
    isplitl [Ha]; · iexact Ha
    isplitl [Hc]; · iexact Hc
    isplitl [Hv0]; · iexact Hv0
    isplitl [Hx]; · iexact Hx
    isplitl [Ho]; · iexact Ho
    iexact Hv3
  iintro ⟨Hb, Hheld⟩
  ihave Hh := (Entails.of_eq ((show (held (T d) S7 ((op3 (F := F)).result (V3 m d)) : sProp 𝕄) = held (T d) S7 (V4 m d) from rfl).trans (held_S7 (F := F) d (V4 m d)))) $$ Hheld
  rw [V4_ne m d (r := main_arg0) (by decide), V4_ne m d (r := main_arg1) (by decide), V4_ne m d (r := main_arg2) (by decide),
    V3_ne m d (b := a0') (by decide), V3_ne m d (b := a1') (by decide), V3_ne m d (b := a2') (by decide),
    V2_ne m d (r := main_arg0) (by decide) (by decide), V2_ne m d (r := main_arg1) (by decide) (by decide), V2_ne m d (r := main_arg2) (by decide) (by decide)]
  icases Hh with ⟨H0, Ha, Hc, -, -, -, Hv3⟩
  rw [wp_ret]; imodintro; imodintro
  isplitl [Hst]; · iexact Hst
  isplitr [Hb Hts]
  · isplitl [H0]; · iexact H0
    isplitl [Ha]; · iexact Ha
    isplitl [Hc]; · iexact Hc
    iexact Hv3
  isplitl [Hb] <;> iassumption

/-- What the claims read off a final memory. -/
def fq (d : Dev nD) (s' : Phys nD τ sig (Elt F)) : Prop :=
  s'.mem.mem (zLoc d) = m (zLoc d) ∧ s'.mem.mem (aLoc d) = m (aLoc d) ∧ s'.mem.mem (cLoc d) = m (cLoc d)
    ∧ s'.mem.mem (rLoc d) = RET m d

omit [FloatOps F] in
theorem read_mem (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) :=
  fun x hx => ⟨((sep_mono_left sep_elim_left).trans (read_mem _ _ s')) x hx,
    ((sep_mono_left (sep_elim_right.trans sep_elim_left)).trans (read_mem _ _ s')) x hx,
    ((sep_mono_left (sep_elim_right.trans (sep_elim_right.trans sep_elim_left))).trans (read_mem _ _ s')) x hx,
    ((sep_mono_left (sep_elim_right.trans (sep_elim_right.trans sep_elim_right))).trans (read_mem _ _ s')) x hx⟩

/-! ## The program's run and the claim -/

def QC : PUnit × MemSt nD τ sig (Elt F) → Prop := fun r => (∀ c : Dev nD,
  r.2.mem (zLoc c) = m (zLoc c) ∧ r.2.mem (aLoc c) = m (aLoc c) ∧ r.2.mem (cLoc c) = m (cLoc c)
    ∧ r.2.mem (rLoc c) = RET m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => vecSplit m)
    m ρ main (fun _ => iprop(emp)) (FIN m) (u₀ (F := F)) (sep_elim_left.trans (hu₀ m)) (hmain m ρ) (fq m) (hfin m) (QC m) (fun _ h hz => ⟨h, hz⟩)

/-- The frame: the run, its value dropped. -/
theorem frame_claim : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

end Cert.Proof.KernelIdeal

end
-- ==== Proof.Spec.lean ====
/-
  The two layers over the extended reals, on one feature of one row of the batch: 26 numbers, one for each field, to 26
  numbers. And the two facts about numbers that the kernel's spelling of them needs: its hyperbolic tangent, and which
  five edges end in a field.
-/
module

public import proofs.«01_k».proof.Proof.BodyIdeal
public import proofs.«01_k».proof.Proof.Gen.ReferenceIdeal
public import Idealize.ShloMosaic.Lib.IdealHost

@[expose] public section

noncomputable section

namespace Cert.Proof.Spec

open Idealize.ShloMosaic
open Cert.Proof.KernelIdeal (edge)

/-- What reaches field `i`: the five neighbours, each times the weight of its edge. -/
def mix (w r : ℕ → EReal) (i : ℕ) : EReal :=
  r ((i + 1) % 26) * w (edge 1 i) + r ((i + 5) % 26) * w (edge 5 i)
    + (r ((i + 7) % 26) * w (edge 7 i) + r ((i + 11) % 26) * w (edge 11 i)) + r ((i + 13) % 26) * w (edge 13 i)

/-- One layer. -/
def layer (w r : ℕ → EReal) (i : ℕ) : EReal := Ideal.tanh (mix w r i)

/-- A layer reads its rows at fields below 26 only. -/
theorem layer_congr {w r r' : ℕ → EReal} (h : ∀ f, f < 26 → r f = r' f) (i : ℕ) : layer w r i = layer w r' i := by
  unfold layer mix
  rw [h _ (Nat.mod_lt (i + 1) (by decide)), h _ (Nat.mod_lt (i + 5) (by decide)), h _ (Nat.mod_lt (i + 7) (by decide)),
    h _ (Nat.mod_lt (i + 11) (by decide)), h _ (Nat.mod_lt (i + 13) (by decide))]

/-! ## The hyperbolic tangent -/

theorem ofBits_two : Ideal.ofBits .f32 0x40000000#32 = ((2 : ℝ) : EReal) := by
  simp [Ideal.ofBits, Ideal.ieee, -EReal.coe_mul]; norm_num

/-- `1 - 2 / (exp (2 x) + 1)` is the hyperbolic tangent of every extended real `x`. -/
theorem tanh_eq (x : EReal) :
    Ideal.ofBits .f32 0x3F800000#32
        - Ideal.div (Ideal.ofBits .f32 0x40000000#32)
            (Ideal.exp (x * Ideal.ofBits .f32 0x40000000#32) + Ideal.ofBits .f32 0x3F800000#32)
      = Ideal.tanh x := by
  rw [Ideal.ofBits_one_f32, ofBits_two]
  induction x with
  | bot =>
    rw [EReal.bot_mul_coe_of_pos (by norm_num), Ideal.exp_bot, Ideal.tanh_bot, zero_add, ← EReal.coe_one, Ideal.div_coe one_ne_zero]
    rw [← EReal.coe_mul, ← EReal.coe_sub, ← EReal.coe_neg]
    norm_num
  | top =>
    rw [EReal.top_mul_coe_of_pos (by norm_num), Ideal.exp_top, Ideal.tanh_top, ← EReal.coe_one, EReal.top_add_coe, Ideal.div,
      if_neg (by simp), EReal.inv_top, mul_zero, sub_zero]
  | coe r =>
    rw [← EReal.coe_mul, Ideal.exp_coe, Ideal.tanh_coe, ← EReal.coe_one, ← EReal.coe_add,
      Ideal.div_coe (by positivity), ← EReal.coe_mul, ← EReal.coe_sub]
    congr 1
    rw [Real.tanh_eq_sinh_div_cosh, Real.sinh_eq, Real.cosh_eq, mul_two, Real.exp_add, Real.exp_neg]
    have h := Real.exp_pos r
    field_simp
    ring

/-! ## The edges -/

/-- The source and the destination of each edge, as the reference's tables list them. -/
abbrev srcT : Fin 130 → BitVec 32 := Cert.ReferenceIdeal.lit0
abbrev dstT : Fin 130 → BitVec 32 := Cert.ReferenceIdeal.lit1

theorem edge_lt : ∀ i : Fin 26, edge 1 i.val < 130 ∧ edge 5 i.val < 130 ∧ edge 7 i.val < 130 ∧ edge 11 i.val < 130 ∧ edge 13 i.val < 130 := by
  decide +kernel

abbrev e1 (i : Fin 26) : Fin 130 := ⟨edge 1 i.val, (edge_lt i).1⟩
abbrev e5 (i : Fin 26) : Fin 130 := ⟨edge 5 i.val, (edge_lt i).2.1⟩
abbrev e7 (i : Fin 26) : Fin 130 := ⟨edge 7 i.val, (edge_lt i).2.2.1⟩
abbrev e11 (i : Fin 26) : Fin 130 := ⟨edge 11 i.val, (edge_lt i).2.2.2.1⟩
abbrev e13 (i : Fin 26) : Fin 130 := ⟨edge 13 i.val, (edge_lt i).2.2.2.2⟩

/-- The edges that end in field `i` are those five. -/
theorem ends : ∀ i : Fin 26, (Finset.univ.filter fun e : Fin 130 => (dstT e).toInt = (i.val : ℤ)) = {e1 i, e5 i, e7 i, e11 i, e13 i} := by
  decide +kernel

theorem apart : ∀ i : Fin 26, e1 i ∉ ({e5 i, e7 i, e11 i, e13 i} : Finset (Fin 130)) ∧ e5 i ∉ ({e7 i, e11 i, e13 i} : Finset (Fin 130))
    ∧ e7 i ∉ ({e11 i, e13 i} : Finset (Fin 130)) ∧ e11 i ∉ ({e13 i} : Finset (Fin 130)) := by
  decide +kernel

/-- They come from the five neighbours. -/
theorem starts : ∀ i : Fin 26, (srcT (e1 i)).toInt = (i.val + 1) % 26 ∧ (srcT (e5 i)).toInt = (i.val + 5) % 26
    ∧ (srcT (e7 i)).toInt = (i.val + 7) % 26 ∧ (srcT (e11 i)).toInt = (i.val + 11) % 26 ∧ (srcT (e13 i)).toInt = (i.val + 13) % 26 := by
  decide +kernel

/-- A sum over the edges that end in field `i`, in the kernel's order of addition. -/
theorem sum_ends (i : Fin 26) (f : Fin 130 → EReal) :
    (∑ e ∈ Finset.univ.filter (fun e : Fin 130 => (dstT e).toInt = (i.val : ℤ)), f e)
      = f (e1 i) + f (e5 i) + (f (e7 i) + f (e11 i)) + f (e13 i) := by
  obtain ⟨h1, h5, h7, h11⟩ := apart i
  rw [ends i, Finset.sum_insert h1, Finset.sum_insert h5, Finset.sum_insert h7, Finset.sum_insert h11, Finset.sum_singleton]
  ac_rfl

/-- Every edge's source is a field. -/
theorem src_ok : ∀ e : Fin 130, (srcT e).toInt.toNat ≤ 25 := by
  decide +kernel

end Cert.Proof.Spec

end
-- ==== Proof.KernelValue.lean ====
/-
  What the kernel computes, at an index of its result: the two layers of Proof/Spec.lean on that feature of that row.
-/
module

public import proofs.«01_k».proof.Proof.LaunchIdeal
public import proofs.«01_k».proof.Proof.Spec
public import Idealize.ShloMosaic.Lib.ValueLayout

@[expose] public section

noncomputable section

namespace Cert.Proof.KernelIdeal

open Cert.KernelIdeal Cert.KernelIdeal.Gen
open Idealize.ShloMosaic Idealize.ShloMosaic.ValueIdx

/-! ## A layer at a lane -/

theorem lay_at (W : S130.Idx → Elt Ideal .f32) (R : ℕ → FVec Ideal S16 .f32) (i : ℕ) (l : S16.Idx) :
    lay W R i l = Spec.layer (wd W) (fun f => R f l) i := Spec.tanh_eq _

theorem back_at (Y : ℕ → FVec Ideal S16 .f32) (f : ℕ) (l : Fin 16) : back Y f (ix1 l) = Y f (ix1 l) := by
  unfold back hrow
  rw [shapeCast_1a_a_apply, shapeCast_a_1a_apply]

theorem X_at (A : S832x128.Idx → Elt Ideal .f32) (t f : ℕ) (l : Fin 16) :
    X A t f (ix1 l) = A (ij ((32 * f + t / 8) % 832) ((t % 8 * 16 + l.val) % 128) (Nat.mod_lt _ (by decide)) (Nat.mod_lt _ (by decide))) := by
  unfold X
  rw [shapeCast_1a_a_apply]
  rfl

theorem Y2_at (A : S832x128.Idx → Elt Ideal .f32) (W0 W1 : S130.Idx → Elt Ideal .f32) (t f : ℕ) (l : Fin 16) :
    Y2 A W0 W1 t f (ix1 l) = Spec.layer (wd W1) (Spec.layer (wd W0)
      fun f => A (ij ((32 * f + t / 8) % 832) ((t % 8 * 16 + l.val) % 128) (Nat.mod_lt _ (by decide)) (Nat.mod_lt _ (by decide)))) f := by
  unfold Y2
  rw [lay_at]
  refine Spec.layer_congr (fun f' _ => ?_) _
  rw [back_at]
  unfold Y1
  rw [lay_at]
  exact Spec.layer_congr (fun f'' _ => X_at A t f'' l) _

/-! ## The whole result -/

theorem OUT_at (xt : S832x16384.Idx → Elt Ideal .f32) (W0 W1 : S130.Idx → Elt Ideal .f32) (r : Fin 832) (b : Fin 16384) :
    OUT xt W0 W1 (ix2 r b) = Spec.layer (wd W1) (Spec.layer (wd W0)
      fun f => xt (ix2 ⟨(32 * f + r.val % 32) % 832, Nat.mod_lt _ (by decide)⟩ b)) (r.val / 32) := by
  have hr := r.isLt
  have hb := b.isLt
  show (if r.val % 32 * 8 + b.val % 128 / 16 < 256
    then Y2 (chunk xt (b.val / 128)) W0 W1 (r.val % 32 * 8 + b.val % 128 / 16) (r.val / 32) (ix1 ⟨b.val % 128 % 16, Nat.mod_lt _ (by decide)⟩)
    else _) = _
  rw [if_pos (by omega), Y2_at]
  refine Spec.layer_congr (fun f' _ => Spec.layer_congr (fun f _ => ?_) _) _
  unfold chunk ij
  refine congrArg xt ?_
  congr 1
  · refine Fin.ext ?_
    show (32 * f + (r.val % 32 * 8 + b.val % 128 / 16) / 8) % 832 = (32 * f + r.val % 32) % 832
    have : (r.val % 32 * 8 + b.val % 128 / 16) / 8 = r.val % 32 := by omega
    rw [this]
  · refine Fin.ext ?_
    show (b.val / 128 * 128 + ((r.val % 32 * 8 + b.val % 128 / 16) % 8 * 16 + b.val % 128 % 16) % 128) % 16384 = b.val
    omega

variable (m : (ℓ : Loc nD τ sig) → Buf (Elt Ideal) ℓ) (d : Dev nD)

theorem V1_v0 : V1 m d v0' = transpose S26x32x16384 [1, 2, 0] (m (zLoc d)) transposes_S16384x26x32_S26x32x16384_1_2_0 :=
  StableHlo.unary_result ..

theorem XT_at (r : Fin 832) (b : Fin 16384) :
    XT m d (ix2 r b) = (m (zLoc d) : FVec Ideal S16384x26x32 .f32) (ix3 b ⟨r.val / 32, by omega⟩ ⟨r.val % 32, Nat.mod_lt _ (by decide)⟩) := by
  have h : XT m d = shapeCast S832x16384 (V1 m d v0') shapeCasts_S26x32x16384_S832x16384 := by
    unfold XT V2
    exact StableHlo.reshape_result ..
  rw [h, V1_v0, shapeCast_apply _ _ (ix2 r b) (ix3 (⟨r.val / 32, by omega⟩ : Fin 26) (⟨r.val % 32, Nat.mod_lt _ (by decide)⟩ : Fin 32) b) (by
    rw [Shape.rowMajor_val_three, Shape.rowMajor_val_two]
    show (r.val / 32 * 32 + r.val % 32) * 16384 + b.val = r.val * 16384 + b.val
    omega)]
  refine transpose_apply _ _ _ _ _ fun a => ?_
  match a with
  | ⟨0, _⟩ => rfl
  | ⟨1, _⟩ => rfl
  | ⟨2, _⟩ => rfl

/-- The kernel's result: the two layers on that feature of that row. -/
theorem RET_at (b : Fin 16384) (r : Fin 832) :
    RET m d (ix2 b r) = Spec.layer (wd (m (cLoc d))) (Spec.layer (wd (m (aLoc d)))
      fun f => (m (zLoc d) : FVec Ideal S16384x26x32 .f32) (ix3 b ⟨f % 26, Nat.mod_lt _ (by decide)⟩ ⟨r.val % 32, Nat.mod_lt _ (by decide)⟩)) (r.val / 32) := by
  have h : RET m d = transpose S16384x832 [1, 0] (V3 m d v2') transposes_S832x16384_S16384x832_1_0 := by
    unfold RET V4
    exact StableHlo.unary_result ..
  have h3 : V3 m d v2' = RES m d := Function.update_self ..
  rw [h, h3, transpose_ix2_apply]
  unfold RES
  rw [OUT_at]
  refine Spec.layer_congr (fun f' _ => Spec.layer_congr (fun f hf => ?_) _) _
  rw [XT_at]
  refine congrArg (m (zLoc d) : FVec Ideal S16384x26x32 .f32) ?_
  congr 1
  · refine Fin.ext ?_
    show (32 * f + r.val % 32) % 832 / 32 = f % 26
    omega
  · refine Fin.ext ?_
    show (32 * f + r.val % 32) % 832 % 32 = r.val % 32
    omega

end Cert.Proof.KernelIdeal

end
-- ==== Proof.RefValue.lean ====
/-
  What the reference computes, at an index of its result: the two layers of Proof/Spec.lean on that feature of that row.
  Its gather reads the edges' source fields, its accumulating scatter adds up what ends in each field.
-/
module

public import proofs.«01_k».proof.Proof.Spec
public import proofs.«01_k».proof.Proof.Gen.ReferenceIdeal.Run
public import Idealize.ShloMosaic.Lib.ValueIdx
public import Idealize.ShloMosaic.Lib.ValueLayout
public import Idealize.ShloMosaic.Lib.IdealHost

@[expose] public section

noncomputable section

namespace Cert.Proof.Ref

open Cert.ReferenceIdeal Cert.ReferenceIdeal.Gen Cert.Proof.Spec
open Idealize.ShloMosaic Idealize.ShloMosaic.ValueIdx

/-- An index table with its negative entries wrapped round, as a column. -/
def tab (T : Fin 130 → BitVec 32) : IVec S130x1 32 :=
  broadcastInDim S130x1 ![0] bcast_S130_S130x1_0
    (select (cmpi .slt ((fun i => T (S130.rowMajor i))) (broadcastInDim S130 ![] bcast_S_S130 (constantI S_ 32 0#32)))
      (addi ((fun i => T (S130.rowMajor i))) (broadcastInDim S130 ![] bcast_S_S130 (constantI S_ 32 26#32)))
      ((fun i => T (S130.rowMajor i))))

/-- Whether every source is a field. -/
def inside : IVec S130x1 1 :=
  andi (cmpi .sge (tab lit0) (broadcastInDim S130x1 ![] bcast_S_S130x1 (constantI S_ 32 0#32)))
    (cmpi .sle (tab lit0) (broadcastInDim S130x1 ![0, 1] bcast_S1x1_S130x1_0_1 (broadcastInDim S1x1 ![1] bcast_S1_S1x1_1 (constantI S1 32 25#32))))
def mask : IVec S130 1 := Host.reduce IntOp.andi inside (constantI S_ 1 1#1) reducesTo_S130x1_S130_d1 h_S_

/-- Each edge's source, read out of `h`. -/
def taken (h : FVec Ideal S16384x32x26 .f32) : FVec Ideal S16384x32x130 .f32 :=
  select (broadcastInDim S16384x32x130 ![2] bcast_S130_S16384x32x130_2 mask)
    (Host.gather gather_S16384x32x26_S130x1_S16384x32x130_01_2_n_n_2_1_16384321 h (tab lit0))
    (broadcastInDim S16384x32x130 ![] bcast_S_S16384x32x130 (constant S_ .f32 0x7FC00000#32))

/-- The weights along the last axis. -/
def along (w : FVec Ideal S130 .f32) : FVec Ideal S16384x32x130 .f32 :=
  broadcastInDim S16384x32x130 ![0, 1, 2] bcast_S1x1x130_S16384x32x130_0_1_2 (broadcastInDim S1x1x130 ![2] bcast_S130_S1x1x130_2 w)

/-- One layer of the reference. -/
def lay (h : FVec Ideal S16384x32x26 .f32) (w : FVec Ideal S130 .f32) : FVec Ideal S16384x32x26 .f32 :=
  Host.tanh (Host.scatterAdd scatter_S16384x32x26_S130x1_S16384x32x130_01_2_2_1
    (broadcastInDim S16384x32x26 ![] bcast_S_S16384x32x26 (constant S_ .f32 0x00000000#32)) (tab lit1) (mulf (taken h) (along w)))

set_option maxRecDepth 8192 in
/-- The reference's result is two layers between two re-layouts. -/
theorem res_eq (m : (ℓ : Loc nD τ sig) → Buf (Elt Ideal) ℓ) (c : Dev nD) :
    Cert.ReferenceIdeal.Value.res_main_v28 (F := Ideal) m c
      = shapeCast S16384x832 (transpose S16384x26x32 [0, 2, 1]
          (lay (lay (transpose S16384x32x26 [0, 2, 1] (m ((c.tc : Thread nD τ).loc main_arg0)) transposes_S16384x26x32_S16384x32x26_0_2_1)
              (m ((c.tc : Thread nD τ).loc main_arg1))) (m ((c.tc : Thread nD τ).loc main_arg2)))
          transposes_S16384x32x26_S16384x26x32_0_2_1) shapeCasts_S16384x26x32_S16384x832 := rfl

/-! ## The tables -/

theorem wrap (T : Fin 130 → BitVec 32)
    (hT : ∀ e, Scalar.select (IntOp.cmpi .slt (T e) 0#32) (IntOp.addi (T e) 26#32) (T e) = T e) (e : Fin 130) (u : Fin 1) :
    tab T (ix2 e u) = T e := by
  unfold tab
  rw [broadcastInDim_apply _ _ _ _ (ix1 e) (fun a => by fin_cases a; rfl)]
  have hr : S130.rowMajor (ix1 e) = e := Fin.ext (Shape.rowMajor_val_one _)
  show Scalar.select (IntOp.cmpi .slt (T (S130.rowMajor (ix1 e))) 0#32) (IntOp.addi (T (S130.rowMajor (ix1 e))) 26#32) (T (S130.rowMajor (ix1 e))) = T e
  rw [hr]; exact hT e

theorem src_tab (e : Fin 130) (u : Fin 1) : tab lit0 (ix2 e u) = srcT e := wrap lit0 (by decide +kernel) e u
theorem dst_tab (e : Fin 130) (u : Fin 1) : tab lit1 (ix2 e u) = dstT e := wrap lit1 (by decide +kernel) e u

theorem inside_eq : inside = fun _ => 1#1 := by
  funext k
  obtain ⟨e, u, rfl⟩ : ∃ (e : Fin 130) (u : Fin 1), k = ix2 e u := ⟨k 0, k 1, eq_ix2 k⟩
  show IntOp.andi (IntOp.cmpi .sge (tab lit0 (ix2 e u)) 0#32) (IntOp.cmpi .sle (tab lit0 (ix2 e u)) 25#32) = 1#1
  rw [src_tab]
  have h : ∀ e : Fin 130, IntOp.andi (IntOp.cmpi .sge (srcT e) 0#32) (IntOp.cmpi .sle (srcT e) 25#32) = 1#1 := by decide +kernel
  exact h e

theorem mask_eq : mask = fun _ => 1#1 := by
  unfold mask
  rw [inside_eq]
  funext j
  unfold Host.reduce
  generalize (List.finRange S130x1.numel).filter _ = l
  show l.foldl (fun r n => IntOp.andi r 1#1) 1#1 = 1#1
  induction l with
  | nil => rfl
  | cons a l ih => exact ih

/-! ## The gather and the scatter -/

/-- A field as an index. -/
abbrev fld (n : ℕ) : Fin 26 := ⟨n % 26, Nat.mod_lt _ (by decide)⟩

theorem gather_at (h : FVec Ideal S16384x32x26 .f32) (b : Fin 16384) (d : Fin 32) (e : Fin 130) :
    Host.gather gather_S16384x32x26_S130x1_S16384x32x130_01_2_n_n_2_1_16384321 h (tab lit0) (ix3 b d e) = h (ix3 b d (fld (srcT e).toInt.toNat)) := by
  unfold Host.gather
  refine congrArg h (funext fun a => Fin.ext ?_)
  have hsi : ∀ c, GatherDims.siIdx gather_S16384x32x26_S130x1_S16384x32x130_01_2_n_n_2_1_16384321 (ix3 b d e) c = ix2 e (0 : Fin 1) := fun c => by
    funext x
    match x with
    | ⟨0, _⟩ => rfl
    | ⟨1, _⟩ => exact Subsingleton.elim (α := Fin 1) _ _
  have hs := src_ok e
  match a with
  | ⟨0, _⟩ => show 0 + 0 + b.val = b.val; omega
  | ⟨1, _⟩ => show 0 + 0 + d.val = d.val; omega
  | ⟨2, _⟩ =>
    show min (tab lit0 (GatherDims.siIdx gather_S16384x32x26_S130x1_S16384x32x130_01_2_n_n_2_1_16384321 (ix3 b d e) _)).toInt.toNat 25 + 0 + 0
      = (srcT e).toInt.toNat % 26
    rw [hsi, src_tab]
    omega

local notation "SD" => scatter_S16384x32x26_S130x1_S16384x32x130_01_2_2_1

/-- Where an update's cell lies along an axis: -/
def land (b : Fin 16384) (d : Fin 32) (e : Fin 130) (a : Fin 3) : ℤ :=
  ScatterDims.start SD (ix3 b d e) (tab lit1) a + (ScatterDims.window SD (ix3 b d e) a : ℤ)

/-- its own row, -/
theorem land_0 (b : Fin 16384) (d : Fin 32) (e : Fin 130) : land b d e 0 = b.val := by
  have s : ScatterDims.start SD (ix3 b d e) (tab lit1) 0 = 0 := rfl
  have w : ScatterDims.window SD (ix3 b d e) 0 = b.val := rfl
  unfold land; rw [s, w, zero_add]

/-- its own feature, -/
theorem land_1 (b : Fin 16384) (d : Fin 32) (e : Fin 130) : land b d e 1 = d.val := by
  have s : ScatterDims.start SD (ix3 b d e) (tab lit1) 1 = 0 := rfl
  have w : ScatterDims.window SD (ix3 b d e) 1 = d.val := rfl
  unfold land; rw [s, w, zero_add]

/-- the field its edge ends in. -/
theorem land_2 (b : Fin 16384) (d : Fin 32) (e : Fin 130) : land b d e 2 = (dstT e).toInt := by
  have hsi : ∀ c, ScatterDims.siIdx SD (ix3 b d e) c = ix2 e (0 : Fin 1) := fun c => by
    funext x
    match x with
    | ⟨0, _⟩ => rfl
    | ⟨1, _⟩ => exact Subsingleton.elim (α := Fin 1) _ _
  have s : ScatterDims.start SD (ix3 b d e) (tab lit1) 2 = (dstT e).toInt := by
    show (tab lit1 (ScatterDims.siIdx SD (ix3 b d e) _)).toInt = _
    rw [hsi, dst_tab]
  have w : ScatterDims.window SD (ix3 b d e) 2 = 0 := rfl
  unfold land; rw [s, w]; exact add_zero _

/-- An update lands at `x` when it lies at `x` along every axis. -/
theorem lands_iff {s si u : Shape} (D : ScatterDims s si u) {w : ℕ} (j : u.Idx) (idx : IVec si w) (x : s.Idx) :
    D.resultIdx? j idx = some x ↔ ∀ a, D.start j idx a + (D.window j a : ℤ) = ((x a).val : ℤ) := by
  unfold ScatterDims.resultIdx?
  constructor
  · intro h a
    split at h
    · next hall =>
      have q := congrArg Fin.val (congrFun (Option.some.inj h) a)
      have := (hall a).1
      dsimp only at q
      omega
    · cases h
  · intro h
    rw [dif_pos fun a => ⟨by rw [h a]; exact Int.natCast_nonneg _, by rw [h a]; exact Int.ofNat_lt.mpr (x a).isLt⟩]
    refine congrArg some (funext fun a => Fin.ext ?_)
    dsimp only
    rw [h a]; exact Int.toNat_natCast _

theorem lands (b b' : Fin 16384) (d d' : Fin 32) (e : Fin 130) (i : Fin 26) :
    ScatterDims.resultIdx? SD (ix3 b' d' e) (tab lit1) = some (ix3 b d i)
      ↔ b' = b ∧ d' = d ∧ (dstT e).toInt = (i.val : ℤ) := by
  rw [lands_iff]
  constructor
  · intro h
    have e0 : land b' d' e 0 = (b.val : ℤ) := h 0
    have e1 : land b' d' e 1 = (d.val : ℤ) := h 1
    have e2 : land b' d' e 2 = (i.val : ℤ) := h 2
    rw [land_0] at e0; rw [land_1] at e1; rw [land_2] at e2
    exact ⟨Fin.ext (Int.ofNat_inj.mp e0), Fin.ext (Int.ofNat_inj.mp e1), e2⟩
  · rintro ⟨rfl, rfl, hv⟩ a
    match a with
    | ⟨0, _⟩ => exact land_0 b' d' e
    | ⟨1, _⟩ => exact land_1 b' d' e
    | ⟨2, _⟩ => exact (land_2 b' d' e).trans hv

theorem cut (j : S16384x32x130.Idx) : ∃ (b : Fin 16384) (d : Fin 32) (e : Fin 130), j = ix3 b d e := ⟨j 0, j 1, j 2, eq_ix3 j⟩

/-- The accumulating scatter into zeros: each field gets the sum over the edges that end in it. -/
theorem scatter_at (upd : FVec Ideal S16384x32x130 .f32) (b : Fin 16384) (d : Fin 32) (i : Fin 26) :
    Host.scatterAdd scatter_S16384x32x26_S130x1_S16384x32x130_01_2_2_1
        (broadcastInDim S16384x32x26 ![] bcast_S_S16384x32x26 (constant S_ .f32 0x00000000#32)) (tab lit1) upd (ix3 b d i)
      = ∑ e ∈ Finset.univ.filter (fun e : Fin 130 => (dstT e).toInt = (i.val : ℤ)), upd (ix3 b d e) := by
  show Ideal.ofBits .f32 0x00000000#32 + (∑ j ∈ Finset.univ.filter (fun j : S16384x32x130.Idx =>
    ScatterDims.resultIdx? scatter_S16384x32x26_S130x1_S16384x32x130_01_2_2_1 j (tab lit1) = some (ix3 b d i)), upd j) = _
  rw [Ideal.ofBits_zero_f32, zero_add]
  refine Finset.sum_nbij' (fun j => j 2) (fun e => ix3 b d e) ?_ ?_ ?_ ?_ ?_
  · intro j hj
    have hj := (Finset.mem_filter.mp hj).2
    obtain ⟨b', d', e, rfl⟩ := cut j
    rw [lands] at hj
    exact Finset.mem_filter.mpr ⟨Finset.mem_univ _, hj.2.2⟩
  · intro e he
    exact Finset.mem_filter.mpr ⟨Finset.mem_univ _, (lands b b d d e i).mpr ⟨rfl, rfl, (Finset.mem_filter.mp he).2⟩⟩
  · intro j hj
    have hj := (Finset.mem_filter.mp hj).2
    obtain ⟨b', d', e, rfl⟩ := cut j
    rw [lands] at hj
    obtain ⟨rfl, rfl, _⟩ := hj
    rfl
  · intro e _; rfl
  · intro j hj
    have hj := (Finset.mem_filter.mp hj).2
    obtain ⟨b', d', e, rfl⟩ := cut j
    rw [lands] at hj
    obtain ⟨rfl, rfl, _⟩ := hj
    rfl

/-! ## A layer at an index -/

theorem tanh_apply {s : Shape} (x : FVec Ideal s .f32) (j : s.Idx) : Host.tanh x j = Ideal.tanh (x j) := rfl

/-- A weight table by the edge's number, -/
def wN (w : FVec Ideal S130 .f32) (n : ℕ) : EReal := w (ix1 ⟨n % 130, Nat.mod_lt _ (by decide)⟩)
/-- and the fields of one feature of one row. -/
def rN (h : FVec Ideal S16384x32x26 .f32) (b : Fin 16384) (d : Fin 32) (n : ℕ) : EReal := h (ix3 b d (fld n))

theorem upd_at (h : FVec Ideal S16384x32x26 .f32) (w : FVec Ideal S130 .f32) (b : Fin 16384) (d : Fin 32) (e : Fin 130) :
    mulf (taken h) (along w) (ix3 b d e) = rN h b d (srcT e).toInt.toNat * wN w e.val := by
  have ht : taken h (ix3 b d e) = rN h b d (srcT e).toInt.toNat := by
    unfold taken
    rw [mask_eq]
    show Scalar.select 1#1 (Host.gather gather_S16384x32x26_S130x1_S16384x32x130_01_2_n_n_2_1_16384321 h (tab lit0) (ix3 b d e)) _ = _
    rw [gather_at]; rfl
  have hw : along w (ix3 b d e) = wN w e.val := by
    unfold along
    rw [broadcastInDim_apply _ _ _ _ (ix3 (0 : Fin 1) (0 : Fin 1) e) (fun a => by fin_cases a <;> rfl),
      broadcastInDim_apply _ _ _ _ (ix1 e) (fun a => by fin_cases a; rfl)]
    unfold wN
    exact congrArg w (congrArg ix1 (Fin.ext (Nat.mod_eq_of_lt e.isLt).symm))
  rw [mulf_apply, ht, hw]

theorem lay_at (h : FVec Ideal S16384x32x26 .f32) (w : FVec Ideal S130 .f32) (b : Fin 16384) (d : Fin 32) (i : Fin 26) :
    lay h w (ix3 b d i) = layer (wN w) (rN h b d) i.val := by
  unfold lay
  rw [tanh_apply, scatter_at]
  unfold layer mix
  refine congrArg Ideal.tanh ?_
  rw [Finset.sum_congr rfl (fun e _ => upd_at h w b d e), sum_ends i fun e => rN h b d (srcT e).toInt.toNat * wN w e.val]
  obtain ⟨h1, h5, h7, h11, h13⟩ := starts i
  rw [h1, h5, h7, h11, h13]
  rfl

/-- The reference's result: the two layers on that feature of that row. -/
theorem res_at (m : (ℓ : Loc nD τ sig) → Buf (Elt Ideal) ℓ) (c : Dev nD) (b : Fin 16384) (r : Fin 832) :
    Cert.ReferenceIdeal.Value.res_main_v28 (F := Ideal) m c (ix2 b r)
      = layer (wN (m ((c.tc : Thread nD τ).loc main_arg2))) (layer (wN (m ((c.tc : Thread nD τ).loc main_arg1)))
          fun f => (m ((c.tc : Thread nD τ).loc main_arg0) : FVec Ideal S16384x26x32 .f32) (ix3 b (fld f) ⟨r.val % 32, Nat.mod_lt _ (by decide)⟩)) (r.val / 32) := by
  have hr := r.isLt
  rw [res_eq, shapeCast_apply _ _ (ix2 b r) (ix3 b (⟨r.val / 32, by omega⟩ : Fin 26) (⟨r.val % 32, Nat.mod_lt _ (by decide)⟩ : Fin 32)) (by
    rw [Shape.rowMajor_val_three, Shape.rowMajor_val_two]
    show (b.val * 26 + r.val / 32) * 32 + r.val % 32 = b.val * 832 + r.val
    omega), transpose_ix3_021_apply, lay_at]
  refine layer_congr (fun f hf => ?_) _
  unfold rN
  rw [lay_at]
  show layer _ _ (f % 26) = _
  rw [Nat.mod_eq_of_lt hf]
  refine layer_congr (fun f' hf' => ?_) _
  unfold rN
  rw [transpose_ix3_021_apply]

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.LaunchIdeal
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments, and has no semaphore. -/
theorem frame_r : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- On equal arguments the two results are equal at every index: both are the two layers of Proof/Spec.lean. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m (KernelIdeal.zLoc c))
    (h1 : m' ((c.tc : Thread Cert.ReferenceIdeal.nD Cert.ReferenceIdeal.τ).loc Cert.ReferenceIdeal.main_arg1) = m (KernelIdeal.aLoc c))
    (h2 : m' ((c.tc : Thread Cert.ReferenceIdeal.nD Cert.ReferenceIdeal.τ).loc Cert.ReferenceIdeal.main_arg2) = m (KernelIdeal.cLoc c)) :
    Cert.ReferenceIdeal.Value.res_main_v28 (F := Ideal) m' c = KernelIdeal.RET m c := by
  have hw : ∀ w : Cert.KernelIdeal.S130.Idx → Elt Ideal .f32, Ref.wN w = KernelIdeal.wd w := fun w => by
    funext n
    refine congrArg w (funext fun a => ?_)
    match a with
    | ⟨0, _⟩ => rfl
  funext x
  obtain ⟨b, r, rfl⟩ : ∃ (b : Fin 16384) (r : Fin 832), x = ValueIdx.ix2 b r := ⟨x 0, x 1, ValueIdx.eq_ix2 x⟩
  refine (Ref.res_at m' c b r).trans (Eq.trans ?_ (KernelIdeal.RET_at m c b r).symm)
  rw [h0, h1, h2]
  exact congrArg₂ (fun w w' => Spec.layer w (Spec.layer w' _) _) (hw _) (hw _)

/-- The kernel and the reference, over the extended reals, leave the same result. -/
theorem algebraic : Cert.algebraic_KernelIdeal_ReferenceIdeal := by
  intro m ρ m' ρ' _ hagree
  refine ⟨fun c => KernelIdeal.RET m c, ?_, ?_⟩
  · exact (θ_run (Cert.KernelIdeal.defs (F := Ideal)) _ _).mono
      (fun r h c => ⟨(h.1 c).2.2.2, (h.1 c).1, (h.1 c).2.1, (h.1 c).2.2.1⟩) (KernelIdeal.run_main (F := Ideal) m ρ)
  · exact (θ_run Cert.ReferenceIdeal.defs _ _).mono
      (fun r h c => ⟨(h c).1.trans (value_eq m m' c (hagree c).1 (hagree c).2.1 (hagree c).2.2), (h c).2⟩)
      (Cert.ReferenceIdeal.Value.run (F := Ideal) m' ρ')

theorem claim : Cert.Claim :=
  ⟨Cert.Kernel.Gen.facts, Cert.KernelIdeal.Gen.facts, Cert.ReferenceIdeal.Gen.facts,
    Cert.Proof.Kernel.frame_claim, Cert.Proof.KernelIdeal.frame_claim, frame_r, trivial, algebraic⟩

end Cert.Proof

end
